-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_open_masks_finite_scores [hPre_open_masks_finite_scores : Cert.Pre_open_masks_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_open_masks_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_open_masks_finite_scores [hPre_open_masks_finite_scores : Cert.Pre_open_masks_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_open_masks_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_open_masks_finite_scores [hKernelIdeal : Cert.KernelIdeal.Facts] [hPre_open_masks_finite_scores : Cert.Pre_open_masks_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_open_masks_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_open_masks_finite_scores [hReferenceIdeal : Cert.ReferenceIdeal.Facts] [hPre_open_masks_finite_scores : Cert.Pre_open_masks_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_open_masks_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_open_masks_finite_scores [hKernelIdeal : Cert.KernelIdeal.Facts] [hReferenceIdeal : Cert.ReferenceIdeal.Facts] [hPre_open_masks_finite_scores : Cert.Pre_open_masks_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_open_masks_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_open_masks_finite_scores : Cert.Pre_open_masks_finite_scores.Facts),
    quiescent_Kernel (hKernel := hKernel)
    ∧ quiescent_KernelIdeal (hKernelIdeal := hKernelIdeal)
    ∧ quiescent_KernelIdeal_pre_open_masks_finite_scores (hKernelIdeal := hKernelIdeal) (hPre_open_masks_finite_scores := hPre_open_masks_finite_scores)
    ∧ quiescent_ReferenceIdeal (hReferenceIdeal := hReferenceIdeal)
    ∧ quiescent_ReferenceIdeal_pre_open_masks_finite_scores (hReferenceIdeal := hReferenceIdeal) (hPre_open_masks_finite_scores := hPre_open_masks_finite_scores)
    ∧ preserves_Kernel_KernelIdeal
    ∧ algebraic_KernelIdeal_ReferenceIdeal_pre_open_masks_finite_scores (hKernelIdeal := hKernelIdeal) (hReferenceIdeal := hReferenceIdeal) (hPre_open_masks_finite_scores := hPre_open_masks_finite_scores)
-- ==== Pre_open_masks_finite_scores.lean ====
abbrev S4x4096x768 : Shape := ⟨3, ![4, 4096, 768]⟩
abbrev S4x1x60x64x192 : Shape := ⟨5, ![4, 1, 60, 64, 192]⟩
abbrev S4x1x4096x1 : Shape := ⟨4, ![4, 1, 4096, 1]⟩
abbrev S4x1x1x4096 : Shape := ⟨4, ![4, 1, 1, 4096]⟩
abbrev S4x64x64 : Shape := ⟨3, ![4, 64, 64]⟩
abbrev S768x768 : Shape := ⟨2, ![768, 768]⟩
abbrev S768 : Shape := ⟨1, ![768]⟩
abbrev S_ : Shape := ⟨0, ![]⟩

class Facts : Prop where
  bcast_S_S4x1x60x64x192 : S_.BroadcastsInDim S4x1x60x64x192 (![] : Fin 0 → Fin S4x1x60x64x192.rank)
  bcast_S_S4x1x4096x1 : S_.BroadcastsInDim S4x1x4096x1 (![] : Fin 0 → Fin S4x1x4096x1.rank)
  bcast_S_S4x1x1x4096 : S_.BroadcastsInDim S4x1x1x4096 (![] : Fin 0 → Fin S4x1x1x4096.rank)
  bcast_S_S4x64x64 : S_.BroadcastsInDim S4x64x64 (![] : Fin 0 → Fin S4x64x64.rank)
  bcast_S_S4x4096x768 : S_.BroadcastsInDim S4x4096x768 (![] : Fin 0 → Fin S4x4096x768.rank)
  bcast_S_S768x768 : S_.BroadcastsInDim S768x768 (![] : Fin 0 → Fin S768x768.rank)
  bcast_S_S768 : S_.BroadcastsInDim S768 (![] : Fin 0 → Fin S768.rank)

variable [Facts]

def fn_part1 {F : FTy → Type} [FloatOps F] (main_arg8 : FVec F S768x768 .f32) (main_arg9 : FVec F S768 .f32) (main_v1 : IVec S4x1x60x64x192 1) (main_v3 : IVec S4x1x4096x1 1) (main_v5 : IVec S4x1x1x4096 1) (main_v7 : IVec S4x64x64 1) (main_v9 : IVec S4x64x64 1) (main_v12 : IVec S4x4096x768 1) (main_v15 : IVec S768x768 1) (main_v16 : FVec F S768 .f32) : IVec S4x1x60x64x192 1 × IVec S4x1x4096x1 1 × IVec S4x1x1x4096 1 × IVec S4x64x64 1 × IVec S4x64x64 1 × IVec S4x4096x768 1 × IVec S768x768 1 × IVec S768 1 × IVec S768x768 1 × IVec S768 1 :=
  let main_cst_6 : FVec F S_ .f32 := constant S_ .f32 0x7F800000#32
  let main_v17 : FVec F S768 .f32 := broadcastInDim S768 ![] bcast_S_S768 main_cst_6
  let main_v18 : IVec S768 1 := cmpf .olt main_v16 main_v17
  let main_v19 : FVec F S768x768 .f32 := Host.absf main_arg8
  let main_cst_7 : FVec F S_ .f32 := constant S_ .f32 0x7F800000#32
  let main_v20 : FVec F S768x768 .f32 := broadcastInDim S768x768 ![] bcast_S_S768x768 main_cst_7
  let main_v21 : IVec S768x768 1 := cmpf .olt main_v19 main_v20
  let main_v22 : FVec F S768 .f32 := Host.absf main_arg9
  let main_cst_8 : FVec F S_ .f32 := constant S_ .f32 0x7F800000#32
  let main_v23 : FVec F S768 .f32 := broadcastInDim S768 ![] bcast_S_S768 main_cst_8
  let main_v24 : IVec S768 1 := cmpf .olt main_v22 main_v23
  (main_v1, main_v3, main_v5, main_v7, main_v9, main_v12, main_v15, main_v18, main_v21, main_v24)

def fn {F : FTy → Type} [FloatOps F] (main_arg0 : FVec F S4x4096x768 .f32) (main_arg1 : FVec F S4x1x60x64x192 .f32) (main_arg2 : FVec F S4x1x4096x1 .f32) (main_arg3 : FVec F S4x1x1x4096 .f32) (main_arg4 : FVec F S4x64x64 .f32) (main_arg5 : FVec F S4x64x64 .f32) (main_arg6 : FVec F S768x768 .f32) (main_arg7 : FVec F S768 .f32) (main_arg8 : FVec F S768x768 .f32) (main_arg9 : FVec F S768 .f32) (main_arg10 : FVec F S768x768 .f32) (main_arg11 : FVec F S768 .f32) : IVec S4x1x60x64x192 1 × IVec S4x1x4096x1 1 × IVec S4x1x1x4096 1 × IVec S4x64x64 1 × IVec S4x64x64 1 × IVec S4x4096x768 1 × IVec S768x768 1 × IVec S768 1 × IVec S768x768 1 × IVec S768 1 :=
  let main_cst : FVec F S_ .f32 := constant S_ .f32 0x3F800000#32
  let main_v0 : FVec F S4x1x60x64x192 .f32 := broadcastInDim S4x1x60x64x192 ![] bcast_S_S4x1x60x64x192 main_cst
  let main_v1 : IVec S4x1x60x64x192 1 := cmpf .oeq main_arg1 main_v0
  let main_cst_0 : FVec F S_ .f32 := constant S_ .f32 0x3F800000#32
  let main_v2 : FVec F S4x1x4096x1 .f32 := broadcastInDim S4x1x4096x1 ![] bcast_S_S4x1x4096x1 main_cst_0
  let main_v3 : IVec S4x1x4096x1 1 := cmpf .oeq main_arg2 main_v2
  let main_cst_1 : FVec F S_ .f32 := constant S_ .f32 0x3F800000#32
  let main_v4 : FVec F S4x1x1x4096 .f32 := broadcastInDim S4x1x1x4096 ![] bcast_S_S4x1x1x4096 main_cst_1
  let main_v5 : IVec S4x1x1x4096 1 := cmpf .oeq main_arg3 main_v4
  let main_cst_2 : FVec F S_ .f32 := constant S_ .f32 0x3F800000#32
  let main_v6 : FVec F S4x64x64 .f32 := broadcastInDim S4x64x64 ![] bcast_S_S4x64x64 main_cst_2
  let main_v7 : IVec S4x64x64 1 := cmpf .oeq main_arg4 main_v6
  let main_cst_3 : FVec F S_ .f32 := constant S_ .f32 0x3F800000#32
  let main_v8 : FVec F S4x64x64 .f32 := broadcastInDim S4x64x64 ![] bcast_S_S4x64x64 main_cst_3
  let main_v9 : IVec S4x64x64 1 := cmpf .oeq main_arg5 main_v8
  let main_v10 : FVec F S4x4096x768 .f32 := Host.absf main_arg0
  let main_cst_4 : FVec F S_ .f32 := constant S_ .f32 0x7F800000#32
  let main_v11 : FVec F S4x4096x768 .f32 := broadcastInDim S4x4096x768 ![] bcast_S_S4x4096x768 main_cst_4
  let main_v12 : IVec S4x4096x768 1 := cmpf .olt main_v10 main_v11
  let main_v13 : FVec F S768x768 .f32 := Host.absf main_arg6
  let main_cst_5 : FVec F S_ .f32 := constant S_ .f32 0x7F800000#32
  let main_v14 : FVec F S768x768 .f32 := broadcastInDim S768x768 ![] bcast_S_S768x768 main_cst_5
  let main_v15 : IVec S768x768 1 := cmpf .olt main_v13 main_v14
  let main_v16 : FVec F S768 .f32 := Host.absf main_arg7
  fn_part1 (F := F) main_arg8 main_arg9 main_v1 main_v3 main_v5 main_v7 main_v9 main_v12 main_v15 main_v16
-- ==== Kernel.lean ====
abbrev S4x4096x768 : Shape := ⟨3, ![4, 4096, 768]⟩
abbrev S4x1x60x64x192 : Shape := ⟨5, ![4, 1, 60, 64, 192]⟩
abbrev S4x1x4096x1 : Shape := ⟨4, ![4, 1, 4096, 1]⟩
abbrev S4x1x1x4096 : Shape := ⟨4, ![4, 1, 1, 4096]⟩
abbrev S4x64x64 : Shape := ⟨3, ![4, 64, 64]⟩
abbrev S768x768 : Shape := ⟨2, ![768, 768]⟩
abbrev S768 : Shape := ⟨1, ![768]⟩
abbrev S12x62x3 : Shape := ⟨3, ![12, 62, 3]⟩
abbrev S_ : Shape := ⟨0, ![]⟩
abbrev S768x2304 : Shape := ⟨2, ![768, 2304]⟩
abbrev S2304 : Shape := ⟨1, ![2304]⟩
abbrev S1x2304 : Shape := ⟨2, ![1, 2304]⟩
abbrev S16384x768 : Shape := ⟨2, ![16384, 768]⟩
abbrev S16384x2304 : Shape := ⟨2, ![16384, 2304]⟩
abbrev S1024x768 : Shape := ⟨2, ![1024, 768]⟩
abbrev S1024x2304 : Shape := ⟨2, ![1024, 2304]⟩
abbrev S4x4096x2304 : Shape := ⟨3, ![4, 4096, 2304]⟩
abbrev S1x4096x128 : Shape := ⟨3, ![1, 4096, 128]⟩
abbrev S64x512 : Shape := ⟨2, ![64, 512]⟩
abbrev S1x64x64 : Shape := ⟨3, ![1, 64, 64]⟩
abbrev S64x64 : Shape := ⟨2, ![64, 64]⟩
abbrev S1x4096x64 : Shape := ⟨3, ![1, 4096, 64]⟩
abbrev S4096x64 : Shape := ⟨2, ![4096, 64]⟩
abbrev S64x4096 : Shape := ⟨2, ![64, 4096]⟩
abbrev S64 : Shape := ⟨1, ![64]⟩
abbrev S64x1 : Shape := ⟨2, ![64, 1]⟩
abbrev S64x128 : Shape := ⟨2, ![64, 128]⟩
abbrev S1x64x128 : Shape := ⟨3, ![1, 64, 128]⟩
abbrev S1x1x1 : Shape := ⟨3, ![1, 1, 1]⟩
abbrev S1x192x64 : Shape := ⟨3, ![1, 192, 64]⟩
abbrev S192x64 : Shape := ⟨2, ![192, 64]⟩
abbrev S512x64 : Shape := ⟨2, ![512, 64]⟩

abbrev nBuf : Space → Nat
  | .hbm => 29
  | .vmem => 14
  | .smem => 1
  | _ => 0

abbrev bufTy : (tb : Table) → Fin (tcTables nBuf tb) → BufTy
  | .hbm, ⟨0, _⟩ => ⟨S4x4096x768, .f32⟩
  | .hbm, ⟨1, _⟩ => ⟨S4x1x60x64x192, .f32⟩
  | .hbm, ⟨2, _⟩ => ⟨S4x1x4096x1, .f32⟩
  | .hbm, ⟨3, _⟩ => ⟨S4x1x1x4096, .f32⟩
  | .hbm, ⟨4, _⟩ => ⟨S4x64x64, .f32⟩
  | .hbm, ⟨5, _⟩ => ⟨S4x64x64, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768x768, .f32⟩
  | .hbm, ⟨11, _⟩ => ⟨S768, .f32⟩
  | .hbm, ⟨12, _⟩ => ⟨S768x768, .f32⟩
  | .hbm, ⟨13, _⟩ => ⟨S_, .f32⟩
  | .hbm, ⟨14, _⟩ => ⟨S768x768, .f32⟩
  | .hbm, ⟨15, _⟩ => ⟨S768x768, .f32⟩
  | .hbm, ⟨16, _⟩ => ⟨S768x768, .f32⟩
  | .hbm, ⟨17, _⟩ => ⟨S768x768, .f32⟩
  | .hbm, ⟨18, _⟩ => ⟨S768x2304, .f32⟩
  | .hbm, ⟨19, _⟩ => ⟨S_, .f32⟩
  | .hbm, ⟨20, _⟩ => ⟨S768, .f32⟩
  | .hbm, ⟨21, _⟩ => ⟨S768, .f32⟩
  | .hbm, ⟨22, _⟩ => ⟨S2304, .f32⟩
  | .hbm, ⟨23, _⟩ => ⟨S1x2304, .f32⟩
  | .hbm, ⟨24, _⟩ => ⟨S16384x768, .f32⟩
  | .hbm, ⟨25, _⟩ => ⟨S768x2304, .bf16⟩
  | .hbm, ⟨26, _⟩ => ⟨S16384x2304, .bf16⟩
  | .hbm, ⟨27, _⟩ => ⟨S4x4096x2304, .bf16⟩
  | .hbm, ⟨28, _⟩ => ⟨S4x4096x768, .f32⟩
  | .local _ .vmem, ⟨0, _⟩ => ⟨S1024x768, .f32⟩
  | .local _ .vmem, ⟨1, _⟩ => ⟨S1024x768, .f32⟩
  | .local _ .vmem, ⟨2, _⟩ => ⟨S768x2304, .bf16⟩
  | .local _ .vmem, ⟨3, _⟩ => ⟨S1x2304, .f32⟩
  | .local _ .vmem, ⟨4, _⟩ => ⟨S1024x2304, .bf16⟩
  | .local _ .vmem, ⟨5, _⟩ => ⟨S1024x2304, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .f32⟩
  | .local _ .vmem, ⟨13, _⟩ => ⟨S1x4096x128, .f32⟩
  | .local _ .smem, ⟨0, _⟩ => ⟨S12x62x3, .i32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 6], ![false, false]⟩

abbrev pre1 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c1_i32 : BitVec 32 := 1#32
  let c62_i32 : BitVec 32 := 62#32
  let v73 : BitVec 32 := Scalar.addi c1_i32 c62_i32
  let c1_i32_54 : BitVec 32 := 1#32
  ⟨c1_i32, v73, c1_i32_54⟩
def k1_off1 (i : grid1.Coords) (k1_t1 : Fin k1_t1_loop.trips) : Fin 3 → Nat :=
  let arg1 : BitVec 32 := BitVec.ofNat 32 (i 1).val
  let c2_i32 : BitVec 32 := 2#32
  let v91 : BitVec 32 := Scalar.muli arg1 c2_i32
  let c0_i32 : BitVec 32 := 0#32
  let v92 : BitVec 32 := Scalar.addi v91 c0_i32
  let v94 : Index := Scalar.indexCast v92
  let c1_i32 : BitVec 32 := 1#32
  let c1_i32_54 : BitVec 32 := 1#32
  let arg7 : BitVec 32 := Scf.iv c1_i32 c1_i32_54 k1_t1
  let c1_i32_58 : BitVec 32 := 1#32
  let v93 : BitVec 32 := Scalar.subi arg7 c1_i32_58
  let v95 : Index := Scalar.indexCast v93
  let c0_59 : Index := 0#32
  ![v94.toNat, v95.toNat, 0]
def k1_off2 (i : grid1.Coords) (k1_t1 : Fin k1_t1_loop.trips) : Fin 3 → Nat :=
  let arg1 : BitVec 32 := BitVec.ofNat 32 (i 1).val
  let c2_i32 : BitVec 32 := 2#32
  let v91 : BitVec 32 := Scalar.muli arg1 c2_i32
  let c0_i32 : BitVec 32 := 0#32
  let v92 : BitVec 32 := Scalar.addi v91 c0_i32
  let v98 : Index := Scalar.indexCast v92
  let c1_i32 : BitVec 32 := 1#32
  let c1_i32_54 : BitVec 32 := 1#32
  let arg7 : BitVec 32 := Scf.iv c1_i32 c1_i32_54 k1_t1
  let c1_i32_60 : BitVec 32 := 1#32
  let v97 : BitVec 32 := Scalar.subi arg7 c1_i32_60
  let v99 : Index := Scalar.indexCast v97
  let c1 : Index := 1#32
  ![v98.toNat, v99.toNat, 1]
def k1_off3 (i : grid1.Coords) (k1_t1 : Fin k1_t1_loop.trips) : Fin 3 → Nat :=
  let arg1 : BitVec 32 := BitVec.ofNat 32 (i 1).val
  let c2_i32 : BitVec 32 := 2#32
  let v91 : BitVec 32 := Scalar.muli arg1 c2_i32
  let c0_i32 : BitVec 32 := 0#32
  let v92 : BitVec 32 := Scalar.addi v91 c0_i32
  let v102 : Index := Scalar.indexCast v92
  let c1_i32 : BitVec 32 := 1#32
  let c1_i32_54 : BitVec 32 := 1#32
  let arg7 : BitVec 32 := Scf.iv c1_i32 c1_i32_54 k1_t1
  let c1_i32_61 : BitVec 32 := 1#32
  let v101 : BitVec 32 := Scalar.subi arg7 c1_i32_61
  let v103 : Index := Scalar.indexCast v101
  let c2 : Index := 2#32
  ![v102.toNat, v103.toNat, 2]
def k1_off4 (k1_t1 : Fin k1_t1_loop.trips) : Fin 3 → Nat :=
  let c0_67 : Index := 0#32
  let c1_i32 : BitVec 32 := 1#32
  let c1_i32_54 : BitVec 32 := 1#32
  let arg7 : BitVec 32 := Scf.iv c1_i32 c1_i32_54 k1_t1
  let c1_i32_65 : BitVec 32 := 1#32
  let v107 : BitVec 32 := Scalar.subi arg7 c1_i32_65
  let c64_i32_66 : BitVec 32 := 64#32
  let v108 : BitVec 32 := Scalar.muli v107 c64_i32_66
  let v109 : Index := Scalar.indexCast v108
  let c0_68 : Index := 0#32
  ![0, v109.toNat, 0]
def k1_off5 (v96 : BitVec 32) : Fin 3 → Nat :=
  let c0_70 : Index := 0#32
  let c64_i32_69 : BitVec 32 := 64#32
  let v112 : BitVec 32 := Scalar.muli v96 c64_i32_69
  let v113 : Index := Scalar.indexCast v112
  let c0_71 : Index := 0#32
  ![0, v113.toNat, 0]

def k1_off6 (v100 : BitVec 32) : Fin 3 → Nat :=
  let c0_73 : Index := 0#32
  let c64_i32_72 : BitVec 32 := 64#32
  let v116 : BitVec 32 := Scalar.muli v100 c64_i32_72
  let v117 : Index := Scalar.indexCast v116
  let c0_74 : Index := 0#32
  ![0, v117.toNat, 0]

def k1_off7 (v104 : BitVec 32) : Fin 3 → Nat :=
  let c0_76 : Index := 0#32
  let c64_i32_75 : BitVec 32 := 64#32
  let v120 : BitVec 32 := Scalar.muli v104 c64_i32_75
  let v121 : Index := Scalar.indexCast v120
  let c0_77 : Index := 0#32
  ![0, v121.toNat, 0]

def k1_chk3 (v104 : BitVec 32) : Prop :=
  (∀ a, (k1_off7 v104) a + S1x64x64.size a ≤ S1x4096x128.size a)
theorem k1_off7_inb : ∀ (v104 : BitVec 32) (k1_hw3 : k1_chk3 v104), ∀ a, (k1_off7 v104) a + S1x64x64.size a ≤ S1x4096x128.size a := fun v104 k1_hw3 => k1_hw3

def k1_off8 (k1_t1 : Fin k1_t1_loop.trips) : Fin 3 → Nat :=
  let c0_86 : Index := 0#32
  let c1_i32 : BitVec 32 := 1#32
  let c1_i32_54 : BitVec 32 := 1#32
  let arg7 : BitVec 32 := Scf.iv c1_i32 c1_i32_54 k1_t1
  let c1_i32_84 : BitVec 32 := 1#32
  let v129 : BitVec 32 := Scalar.subi arg7 c1_i32_84
  let c64_i32_85 : BitVec 32 := 64#32
  let v130 : BitVec 32 := Scalar.muli v129 c64_i32_85
  let v131 : Index := Scalar.indexCast v130
  let c0_87 : Index := 0#32
  ![0, v131.toNat, 0]
def k1_off9 (v96 : BitVec 32) : Fin 3 → Nat :=
  let c0_89 : Index := 0#32
  let c64_i32_88 : BitVec 32 := 64#32
  let v134 : BitVec 32 := Scalar.muli v96 c64_i32_88
  let v135 : Index := Scalar.indexCast v134
  let c0_90 : Index := 0#32
  ![0, v135.toNat, 0]

def k1_chk1 (v96 : BitVec 32) : Prop :=
  (∀ a, (k1_off5 v96) a + S1x64x64.size a ≤ S1x4096x128.size a) ∧
  (∀ a, (k1_off9 v96) a + S1x64x64.size a ≤ S1x4096x128.size a)
theorem k1_off5_inb : ∀ (v96 : BitVec 32) (k1_hw1 : k1_chk1 v96), ∀ a, (k1_off5 v96) a + S1x64x64.size a ≤ S1x4096x128.size a := fun v96 k1_hw1 => k1_hw1.1
theorem k1_off9_inb : ∀ (v96 : BitVec 32) (k1_hw1 : k1_chk1 v96), ∀ a, (k1_off9 v96) a + S1x64x64.size a ≤ S1x4096x128.size a := fun v96 k1_hw1 => k1_hw1.2

def k1_off10 (v100 : BitVec 32) : Fin 3 → Nat :=
  let c0_92 : Index := 0#32
  let c64_i32_91 : BitVec 32 := 64#32
  let v138 : BitVec 32 := Scalar.muli v100 c64_i32_91
  let v139 : Index := Scalar.indexCast v138
  let c0_93 : Index := 0#32
  ![0, v139.toNat, 0]

def k1_chk2 (v100 : BitVec 32) : Prop :=
  (∀ a, (k1_off6 v100) a + S1x64x64.size a ≤ S1x4096x128.size a) ∧
  (∀ a, (k1_off10 v100) a + S1x64x64.size a ≤ S1x4096x128.size a)
theorem k1_off6_inb : ∀ (v100 : BitVec 32) (k1_hw2 : k1_chk2 v100), ∀ a, (k1_off6 v100) a + S1x64x64.size a ≤ S1x4096x128.size a := fun v100 k1_hw2 => k1_hw2.1
theorem k1_off10_inb : ∀ (v100 : BitVec 32) (k1_hw2 : k1_chk2 v100), ∀ a, (k1_off10 v100) a + S1x64x64.size a ≤ S1x4096x128.size a := fun v100 k1_hw2 => k1_hw2.2

def k1_off11 (k1_t1 : Fin k1_t1_loop.trips) : Fin 3 → Nat :=
  let c0_101 : Index := 0#32
  let c1_i32 : BitVec 32 := 1#32
  let c1_i32_54 : BitVec 32 := 1#32
  let arg7 : BitVec 32 := Scf.iv c1_i32 c1_i32_54 k1_t1
  let c64_i32_100 : BitVec 32 := 64#32
  let v149 : BitVec 32 := Scalar.muli arg7 c64_i32_100
  let v150 : Index := Scalar.indexCast v149
  let c0_102 : Index := 0#32
  ![0, v150.toNat, 0]
def k1_off12 (i : grid1.Coords) (k1_t1 : Fin k1_t1_loop.trips) : Fin 3 → Nat :=
  let arg1 : BitVec 32 := BitVec.ofNat 32 (i 1).val
  let c2_i32_108 : BitVec 32 := 2#32
  let v165 : BitVec 32 := Scalar.muli arg1 c2_i32_108
  let c1_i32_109 : BitVec 32 := 1#32
  let v166 : BitVec 32 := Scalar.addi v165 c1_i32_109
  let v168 : Index := Scalar.indexCast v166
  let c1_i32 : BitVec 32 := 1#32
  let c1_i32_54 : BitVec 32 := 1#32
  let arg7 : BitVec 32 := Scf.iv c1_i32 c1_i32_54 k1_t1
  let c1_i32_110 : BitVec 32 := 1#32
  let v167 : BitVec 32 := Scalar.subi arg7 c1_i32_110
  let v169 : Index := Scalar.indexCast v167
  let c0_111 : Index := 0#32
  ![v168.toNat, v169.toNat, 0]
def k1_off13 (i : grid1.Coords) (k1_t1 : Fin k1_t1_loop.trips) : Fin 3 → Nat :=
  let arg1 : BitVec 32 := BitVec.ofNat 32 (i 1).val
  let c2_i32_108 : BitVec 32 := 2#32
  let v165 : BitVec 32 := Scalar.muli arg1 c2_i32_108
  let c1_i32_109 : BitVec 32 := 1#32
  let v166 : BitVec 32 := Scalar.addi v165 c1_i32_109
  let v172 : Index := Scalar.indexCast v166
  let c1_i32 : BitVec 32 := 1#32
  let c1_i32_54 : BitVec 32 := 1#32
  let arg7 : BitVec 32 := Scf.iv c1_i32 c1_i32_54 k1_t1
  let c1_i32_112 : BitVec 32 := 1#32
  let v171 : BitVec 32 := Scalar.subi arg7 c1_i32_112
  let v173 : Index := Scalar.indexCast v171
  let c1_113 : Index := 1#32
  ![v172.toNat, v173.toNat, 1]
def k1_off14 (i : grid1.Coords) (k1_t1 : Fin k1_t1_loop.trips) : Fin 3 → Nat :=
  let arg1 : BitVec 32 := BitVec.ofNat 32 (i 1).val
  let c2_i32_108 : BitVec 32 := 2#32
  let v165 : BitVec 32 := Scalar.muli arg1 c2_i32_108
  let c1_i32_109 : BitVec 32 := 1#32
  let v166 : BitVec 32 := Scalar.addi v165 c1_i32_109
  let v176 : Index := Scalar.indexCast v166
  let c1_i32 : BitVec 32 := 1#32
  let c1_i32_54 : BitVec 32 := 1#32
  let arg7 : BitVec 32 := Scf.iv c1_i32 c1_i32_54 k1_t1
  let c1_i32_114 : BitVec 32 := 1#32
  let v175 : BitVec 32 := Scalar.subi arg7 c1_i32_114
  let v177 : Index := Scalar.indexCast v175
  let c2_115 : Index := 2#32
  ![v176.toNat, v177.toNat, 2]
def k1_off15 (k1_t1 : Fin k1_t1_loop.trips) : Fin 3 → Nat :=
  let c0_121 : Index := 0#32
  let c1_i32 : BitVec 32 := 1#32
  let c1_i32_54 : BitVec 32 := 1#32
  let arg7 : BitVec 32 := Scf.iv c1_i32 c1_i32_54 k1_t1
  let c1_i32_119 : BitVec 32 := 1#32
  let v181 : BitVec 32 := Scalar.subi arg7 c1_i32_119
  let c64_i32_120 : BitVec 32 := 64#32
  let v182 : BitVec 32 := Scalar.muli v181 c64_i32_120
  let v183 : Index := Scalar.indexCast v182
  let c64_122 : Index := 64#32
  ![0, v183.toNat, 64]
def k1_off16 (v170 : BitVec 32) : Fin 3 → Nat :=
  let c0_124 : Index := 0#32
  let c64_i32_123 : BitVec 32 := 64#32
  let v186 : BitVec 32 := Scalar.muli v170 c64_i32_123
  let v187 : Index := Scalar.indexCast v186
  let c64_125 : Index := 64#32
  ![0, v187.toNat, 64]

def k1_off17 (v174 : BitVec 32) : Fin 3 → Nat :=
  let c0_127 : Index := 0#32
  let c64_i32_126 : BitVec 32 := 64#32
  let v190 : BitVec 32 := Scalar.muli v174 c64_i32_126
  let v191 : Index := Scalar.indexCast v190
  let c64_128 : Index := 64#32
  ![0, v191.toNat, 64]

def k1_off18 (v178 : BitVec 32) : Fin 3 → Nat :=
  let c0_130 : Index := 0#32
  let c64_i32_129 : BitVec 32 := 64#32
  let v194 : BitVec 32 := Scalar.muli v178 c64_i32_129
  let v195 : Index := Scalar.indexCast v194
  let c64_131 : Index := 64#32
  ![0, v195.toNat, 64]

def k1_chk6 (v178 : BitVec 32) : Prop :=
  (∀ a, (k1_off18 v178) a + S1x64x64.size a ≤ S1x4096x128.size a)
theorem k1_off18_inb : ∀ (v178 : BitVec 32) (k1_hw6 : k1_chk6 v178), ∀ a, (k1_off18 v178) a + S1x64x64.size a ≤ S1x4096x128.size a := fun v178 k1_hw6 => k1_hw6

def k1_off19 (k1_t1 : Fin k1_t1_loop.trips) : Fin 3 → Nat :=
  let c0_140 : Index := 0#32
  let c1_i32 : BitVec 32 := 1#32
  let c1_i32_54 : BitVec 32 := 1#32
  let arg7 : BitVec 32 := Scf.iv c1_i32 c1_i32_54 k1_t1
  let c1_i32_138 : BitVec 32 := 1#32
  let v203 : BitVec 32 := Scalar.subi arg7 c1_i32_138
  let c64_i32_139 : BitVec 32 := 64#32
  let v204 : BitVec 32 := Scalar.muli v203 c64_i32_139
  let v205 : Index := Scalar.indexCast v204
  let c64_141 : Index := 64#32
  ![0, v205.toNat, 64]
def k1_off20 (v170 : BitVec 32) : Fin 3 → Nat :=
  let c0_143 : Index := 0#32
  let c64_i32_142 : BitVec 32 := 64#32
  let v208 : BitVec 32 := Scalar.muli v170 c64_i32_142
  let v209 : Index := Scalar.indexCast v208
  let c64_144 : Index := 64#32
  ![0, v209.toNat, 64]

def k1_chk4 (v170 : BitVec 32) : Prop :=
  (∀ a, (k1_off16 v170) a + S1x64x64.size a ≤ S1x4096x128.size a) ∧
  (∀ a, (k1_off20 v170) a + S1x64x64.size a ≤ S1x4096x128.size a)
theorem k1_off16_inb : ∀ (v170 : BitVec 32) (k1_hw4 : k1_chk4 v170), ∀ a, (k1_off16 v170) a + S1x64x64.size a ≤ S1x4096x128.size a := fun v170 k1_hw4 => k1_hw4.1
theorem k1_off20_inb : ∀ (v170 : BitVec 32) (k1_hw4 : k1_chk4 v170), ∀ a, (k1_off20 v170) a + S1x64x64.size a ≤ S1x4096x128.size a := fun v170 k1_hw4 => k1_hw4.2

def k1_off21 (v174 : BitVec 32) : Fin 3 → Nat :=
  let c0_146 : Index := 0#32
  let c64_i32_145 : BitVec 32 := 64#32
  let v212 : BitVec 32 := Scalar.muli v174 c64_i32_145
  let v213 : Index := Scalar.indexCast v212
  let c64_147 : Index := 64#32
  ![0, v213.toNat, 64]

def k1_chk5 (v174 : BitVec 32) : Prop :=
  (∀ a, (k1_off17 v174) a + S1x64x64.size a ≤ S1x4096x128.size a) ∧
  (∀ a, (k1_off21 v174) a + S1x64x64.size a ≤ S1x4096x128.size a)
theorem k1_off17_inb : ∀ (v174 : BitVec 32) (k1_hw5 : k1_chk5 v174), ∀ a, (k1_off17 v174) a + S1x64x64.size a ≤ S1x4096x128.size a := fun v174 k1_hw5 => k1_hw5.1
theorem k1_off21_inb : ∀ (v174 : BitVec 32) (k1_hw5 : k1_chk5 v174), ∀ a, (k1_off21 v174) a + S1x64x64.size a ≤ S1x4096x128.size a := fun v174 k1_hw5 => k1_hw5.2

def k1_off22 (k1_t1 : Fin k1_t1_loop.trips) : Fin 3 → Nat :=
  let c0_155 : Index := 0#32
  let c1_i32 : BitVec 32 := 1#32
  let c1_i32_54 : BitVec 32 := 1#32
  let arg7 : BitVec 32 := Scf.iv c1_i32 c1_i32_54 k1_t1
  let c64_i32_154 : BitVec 32 := 64#32
  let v223 : BitVec 32 := Scalar.muli arg7 c64_i32_154
  let v224 : Index := Scalar.indexCast v223
  let c64_156 : Index := 64#32
  ![0, v224.toNat, 64]
def k1_off23 (k1_t1 : Fin k1_t1_loop.trips) : Fin 3 → Nat :=
  let c0_163 : Index := 0#32
  let c1_i32 : BitVec 32 := 1#32
  let c1_i32_54 : BitVec 32 := 1#32
  let arg7 : BitVec 32 := Scf.iv c1_i32 c1_i32_54 k1_t1
  let c64_i32_162 : BitVec 32 := 64#32
  let v240 : BitVec 32 := Scalar.muli arg7 c64_i32_162
  let v241 : Index := Scalar.indexCast v240
  let c0_164 : Index := 0#32
  ![0, v241.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "neg" => some ⊥
  | _ => none
-- ==== ReferenceIdeal.lean ====
abbrev S4x4096x768 : Shape := ⟨3, ![4, 4096, 768]⟩
abbrev S4x1x60x64x192 : Shape := ⟨5, ![4, 1, 60, 64, 192]⟩
abbrev S4x1x4096x1 : Shape := ⟨4, ![4, 1, 4096, 1]⟩
abbrev S4x1x1x4096 : Shape := ⟨4, ![4, 1, 1, 4096]⟩
abbrev S4x64x64 : Shape := ⟨3, ![4, 64, 64]⟩
abbrev S768x768 : Shape := ⟨2, ![768, 768]⟩
abbrev S768 : Shape := ⟨1, ![768]⟩
abbrev S12x62x3 : Shape := ⟨3, ![12, 62, 3]⟩
abbrev S1x1x768 : Shape := ⟨3, ![1, 1, 768]⟩
abbrev S4x4096x12x64 : Shape := ⟨4, ![4, 4096, 12, 64]⟩
abbrev S4x12x4096x64 : Shape := ⟨4, ![4, 12, 4096, 64]⟩
abbrev S1x12x62x3 : Shape := ⟨4, ![1, 12, 62, 3]⟩
abbrev S4x12x62x3 : Shape := ⟨4, ![4, 12, 62, 3]⟩
abbrev S4 : Shape := ⟨1, ![4]⟩
abbrev S4x1 : Shape := ⟨2, ![4, 1]⟩
abbrev S4x2232 : Shape := ⟨2, ![4, 2232]⟩
abbrev S_ : Shape := ⟨0, ![]⟩
abbrev S4x2232x1 : Shape := ⟨3, ![4, 2232, 1]⟩
abbrev S4x2232x2 : Shape := ⟨3, ![4, 2232, 2]⟩
abbrev S4x2232x64 : Shape := ⟨3, ![4, 2232, 64]⟩
abbrev S4x12x62x192 : Shape := ⟨4, ![4, 12, 62, 192]⟩
abbrev S4x62x64 : Shape := ⟨3, ![4, 62, 64]⟩
abbrev S4x1x62x64x1 : Shape := ⟨5, ![4, 1, 62, 64, 1]⟩
abbrev S4x12x62x1x192 : Shape := ⟨5, ![4, 12, 62, 1, 192]⟩
abbrev S4x12x62x64x192 : Shape := ⟨5, ![4, 12, 62, 64, 192]⟩
abbrev S4x12x64x64x64 : Shape := ⟨5, ![4, 12, 64, 64, 64]⟩
abbrev S4x1x1 : Shape := ⟨3, ![4, 1, 1]⟩
abbrev S12 : Shape := ⟨1, ![12]⟩
abbrev S1x12x1 : Shape := ⟨3, ![1, 12, 1]⟩
abbrev S4x12x186 : Shape := ⟨3, ![4, 12, 186]⟩
abbrev S4x12x186x1 : Shape := ⟨4, ![4, 12, 186, 1]⟩
abbrev S4x12x186x3 : Shape := ⟨4, ![4, 12, 186, 3]⟩
abbrev S4x12x186x64x64 : Shape := ⟨5, ![4, 12, 186, 64, 64]⟩
abbrev S4x12x62x192x64 : Shape := ⟨5, ![4, 12, 62, 192, 64]⟩
abbrev S4x12x1x64x64 : Shape := ⟨5, ![4, 12, 1, 64, 64]⟩
abbrev S4x12x64x64 : Shape := ⟨4, ![4, 12, 64, 64]⟩
abbrev S4x12x64x4096 : Shape := ⟨4, ![4, 12, 64, 4096]⟩
abbrev S4x12x64 : Shape := ⟨3, ![4, 12, 64]⟩
abbrev S4x12x64x1 : Shape := ⟨4, ![4, 12, 64, 1]⟩
abbrev S4x12x1x192x64 : Shape := ⟨5, ![4, 12, 1, 192, 64]⟩
abbrev S4x12x192x64 : Shape := ⟨4, ![4, 12, 192, 64]⟩
abbrev S4x12x448x64 : Shape := ⟨4, ![4, 12, 448, 64]⟩
abbrev S4x12x64x448 : Shape := ⟨4, ![4, 12, 64, 448]⟩
abbrev S4x1x1x192 : Shape := ⟨4, ![4, 1, 1, 192]⟩
abbrev S4x1x1x64 : Shape := ⟨4, ![4, 1, 1, 64]⟩
abbrev S4x1x1x448 : Shape := ⟨4, ![4, 1, 1, 448]⟩
abbrev S4x12x64x256 : Shape := ⟨4, ![4, 12, 64, 256]⟩
abbrev S4x12x1x64x192 : Shape := ⟨5, ![4, 12, 1, 64, 192]⟩
abbrev S4x12x64x192 : Shape := ⟨4, ![4, 12, 64, 192]⟩
abbrev S4x12x60x64x64 : Shape := ⟨5, ![4, 12, 60, 64, 64]⟩
abbrev S4x12x60x192x64 : Shape := ⟨5, ![4, 12, 60, 192, 64]⟩
abbrev S4x12x60x64x192 : Shape := ⟨5, ![4, 12, 60, 64, 192]⟩
abbrev S4x1x1x1x64 : Shape := ⟨5, ![4, 1, 1, 1, 64]⟩
abbrev S4x12x60x64x512 : Shape := ⟨5, ![4, 12, 60, 64, 512]⟩
abbrev S4x12x60x64 : Shape := ⟨4, ![4, 12, 60, 64]⟩
abbrev S4x12x60x64x1 : Shape := ⟨5, ![4, 12, 60, 64, 1]⟩

abbrev nBuf : Space → Nat
  | .hbm => 420
  | .vmem => 0
  | .smem => 0
  | _ => 0

abbrev hbmTy0_0 (i : Nat) : BufTy := match i % 128 with
  | 0 => ⟨S4x4096x768, .f32⟩
  | 1 => ⟨S4x1x60x64x192, .f32⟩
  | 2 => ⟨S4x1x4096x1, .f32⟩
  | 3 => ⟨S4x1x1x4096, .f32⟩
  | 4 => ⟨S4x64x64, .f32⟩
  | 5 => ⟨S4x64x64, .f32⟩
  | 6 => ⟨S768x768, .f32⟩
  | 7 => ⟨S768, .f32⟩
  | 8 => ⟨S768x768, .f32⟩
  | 9 => ⟨S768, .f32⟩
  | 10 => ⟨S768x768, .f32⟩
  | 11 => ⟨S768, .f32⟩
  | 12 => ⟨S12x62x3, .i32⟩
  | 13 => ⟨S768x768, .f32⟩
  | 14 => ⟨S4x4096x768, .f32⟩
  | 15 => ⟨S1x1x768, .f32⟩
  | 16 => ⟨S4x4096x768, .f32⟩
  | 17 => ⟨S4x4096x768, .f32⟩
  | 18 => ⟨S4x4096x12x64, .f32⟩
  | 19 => ⟨S4x12x4096x64, .f32⟩
  | 20 => ⟨S768x768, .f32⟩
  | 21 => ⟨S4x4096x768, .f32⟩
  | 22 => ⟨S1x1x768, .f32⟩
  | 23 => ⟨S4x4096x768, .f32⟩
  | 24 => ⟨S4x4096x768, .f32⟩
  | 25 => ⟨S4x4096x12x64, .f32⟩
  | 26 => ⟨S4x12x4096x64, .f32⟩
  | 27 => ⟨S768x768, .f32⟩
  | 28 => ⟨S4x4096x768, .f32⟩
  | 29 => ⟨S1x1x768, .f32⟩
  | 30 => ⟨S4x4096x768, .f32⟩
  | 31 => ⟨S4x4096x768, .f32⟩
  | 32 => ⟨S4x4096x12x64, .f32⟩
  | 33 => ⟨S4x12x4096x64, .f32⟩
  | 34 => ⟨S1x12x62x3, .i32⟩
  | 35 => ⟨S4x12x62x3, .i32⟩
  | 36 => ⟨S4, .i32⟩
  | 37 => ⟨S4x1, .i32⟩
  | 38 => ⟨S4x2232, .i32⟩
  | 39 => ⟨S_, .i32⟩
  | 40 => ⟨S4x1, .i32⟩
  | 41 => ⟨S4x1, .i1⟩
  | 42 => ⟨S_, .i32⟩
  | 43 => ⟨S4x1, .i32⟩
  | 44 => ⟨S4x1, .i32⟩
  | 45 => ⟨S4x1, .i32⟩
  | 46 => ⟨S_, .i32⟩
  | 47 => ⟨S4x2232, .i32⟩
  | 48 => ⟨S4x2232, .i1⟩
  | 49 => ⟨S_, .i32⟩
  | 50 => ⟨S4x2232, .i32⟩
  | 51 => ⟨S4x2232, .i32⟩
  | 52 => ⟨S4x2232, .i32⟩
  | 53 => ⟨S4x2232, .i32⟩
  | 54 => ⟨S4x2232x1, .i32⟩
  | 55 => ⟨S4x2232x1, .i32⟩
  | 56 => ⟨S4x2232x2, .i32⟩
  | 57 => ⟨S4x2232x64, .f32⟩
  | 58 => ⟨S4x12x62x192, .f32⟩
  | 59 => ⟨S4x62x64, .f32⟩
  | 60 => ⟨S4x1x62x64x1, .f32⟩
  | 61 => ⟨S4x12x62x1x192, .f32⟩
  | 62 => ⟨S4x12x62x64x192, .f32⟩
  | 63 => ⟨S4x12x62x64x192, .f32⟩
  | 64 => ⟨S4x12x62x64x192, .f32⟩
  | 65 => ⟨S4x12x64x64x64, .f32⟩
  | 66 => ⟨S4x12x64x64x64, .f32⟩
  | 67 => ⟨S4x12x64x64x64, .f32⟩
  | 68 => ⟨S4, .i32⟩
  | 69 => ⟨S4x1x1, .i32⟩
  | 70 => ⟨S12, .i32⟩
  | 71 => ⟨S1x12x1, .i32⟩
  | 72 => ⟨S4x12x186, .i32⟩
  | 73 => ⟨S_, .i32⟩
  | 74 => ⟨S4x1x1, .i32⟩
  | 75 => ⟨S4x1x1, .i1⟩
  | 76 => ⟨S_, .i32⟩
  | 77 => ⟨S4x1x1, .i32⟩
  | 78 => ⟨S4x1x1, .i32⟩
  | 79 => ⟨S4x1x1, .i32⟩
  | 80 => ⟨S_, .i32⟩
  | 81 => ⟨S1x12x1, .i32⟩
  | 82 => ⟨S1x12x1, .i1⟩
  | 83 => ⟨S_, .i32⟩
  | 84 => ⟨S1x12x1, .i32⟩
  | 85 => ⟨S1x12x1, .i32⟩
  | 86 => ⟨S1x12x1, .i32⟩
  | 87 => ⟨S_, .i32⟩
  | 88 => ⟨S4x12x186, .i32⟩
  | 89 => ⟨S4x12x186, .i1⟩
  | 90 => ⟨S_, .i32⟩
  | 91 => ⟨S4x12x186, .i32⟩
  | 92 => ⟨S4x12x186, .i32⟩
  | 93 => ⟨S4x12x186, .i32⟩
  | 94 => ⟨S4x12x186, .i32⟩
  | 95 => ⟨S4x12x186, .i32⟩
  | 96 => ⟨S4x12x186x1, .i32⟩
  | 97 => ⟨S4x12x186x1, .i32⟩
  | 98 => ⟨S4x12x186x1, .i32⟩
  | 99 => ⟨S4x12x186x3, .i32⟩
  | 100 => ⟨S4x12x186x64x64, .f32⟩
  | 101 => ⟨S4x12x62x192x64, .f32⟩
  | 102 => ⟨S_, .i32⟩
  | 103 => ⟨S4x1x1, .i32⟩
  | 104 => ⟨S4x1x1, .i1⟩
  | 105 => ⟨S_, .i32⟩
  | 106 => ⟨S4x1x1, .i32⟩
  | 107 => ⟨S4x1x1, .i32⟩
  | 108 => ⟨S4x1x1, .i32⟩
  | 109 => ⟨S_, .i32⟩
  | 110 => ⟨S1x12x1, .i32⟩
  | 111 => ⟨S1x12x1, .i1⟩
  | 112 => ⟨S_, .i32⟩
  | 113 => ⟨S1x12x1, .i32⟩
  | 114 => ⟨S1x12x1, .i32⟩
  | 115 => ⟨S1x12x1, .i32⟩
  | 116 => ⟨S_, .i32⟩
  | 117 => ⟨S4x12x186, .i32⟩
  | 118 => ⟨S4x12x186, .i1⟩
  | 119 => ⟨S_, .i32⟩
  | 120 => ⟨S4x12x186, .i32⟩
  | 121 => ⟨S4x12x186, .i32⟩
  | 122 => ⟨S4x12x186, .i32⟩
  | 123 => ⟨S4x12x186, .i32⟩
  | 124 => ⟨S4x12x186, .i32⟩
  | 125 => ⟨S4x12x186x1, .i32⟩
  | 126 => ⟨S4x12x186x1, .i32⟩
  | 127 => ⟨S4x12x186x1, .i32⟩
  | _ => ⟨S4x4096x768, .f32⟩

abbrev hbmTy0_1 (i : Nat) : BufTy := match i % 128 with
  | 0 => ⟨S4x12x186x3, .i32⟩
  | 1 => ⟨S4x12x186x64x64, .f32⟩
  | 2 => ⟨S4x12x62x192x64, .f32⟩
  | 3 => ⟨S4x12x1x64x64, .f32⟩
  | 4 => ⟨S4x12x64x64, .f32⟩
  | 5 => ⟨S4x12x64x4096, .f32⟩
  | 6 => ⟨S_, .f32⟩
  | 7 => ⟨S4x12x64x4096, .f32⟩
  | 8 => ⟨S4x12x64x4096, .f32⟩
  | 9 => ⟨S_, .f32⟩
  | 10 => ⟨S4x1x1x4096, .f32⟩
  | 11 => ⟨S4x1x1x4096, .f32⟩
  | 12 => ⟨S_, .f32⟩
  | 13 => ⟨S4x1x1x4096, .f32⟩
  | 14 => ⟨S4x1x1x4096, .f32⟩
  | 15 => ⟨S4x12x64x4096, .f32⟩
  | 16 => ⟨S4x12x64x4096, .f32⟩
  | 17 => ⟨S_, .f32⟩
  | 18 => ⟨S4x12x64, .f32⟩
  | 19 => ⟨S_, .f32⟩
  | 20 => ⟨S4x12x64, .f32⟩
  | 21 => ⟨S4x12x64, .f32⟩
  | 22 => ⟨S4x12x64x1, .f32⟩
  | 23 => ⟨S4x12x64x4096, .f32⟩
  | 24 => ⟨S4x12x64x4096, .f32⟩
  | 25 => ⟨S4x12x64x4096, .f32⟩
  | 26 => ⟨S_, .f32⟩
  | 27 => ⟨S4x12x64, .f32⟩
  | 28 => ⟨S4x12x64x1, .f32⟩
  | 29 => ⟨S4x12x64x4096, .f32⟩
  | 30 => ⟨S4x12x64x4096, .f32⟩
  | 31 => ⟨S4x12x64x64, .f32⟩
  | 32 => ⟨S4x12x1x64x64, .f32⟩
  | 33 => ⟨S4x12x1x64x64, .f32⟩
  | 34 => ⟨S4x12x64x64, .f32⟩
  | 35 => ⟨S4x12x1x64x64, .f32⟩
  | 36 => ⟨S4x12x64x64, .f32⟩
  | 37 => ⟨S4x12x1x64x64, .f32⟩
  | 38 => ⟨S4x12x64x64, .f32⟩
  | 39 => ⟨S4x12x1x64x64, .f32⟩
  | 40 => ⟨S4x12x64x64, .f32⟩
  | 41 => ⟨S4x12x1x192x64, .f32⟩
  | 42 => ⟨S4x12x192x64, .f32⟩
  | 43 => ⟨S4x12x448x64, .f32⟩
  | 44 => ⟨S4x12x1x64x64, .f32⟩
  | 45 => ⟨S4x12x64x64, .f32⟩
  | 46 => ⟨S4x12x1x64x64, .f32⟩
  | 47 => ⟨S4x12x64x64, .f32⟩
  | 48 => ⟨S4x12x1x64x64, .f32⟩
  | 49 => ⟨S4x12x64x64, .f32⟩
  | 50 => ⟨S4x12x1x64x64, .f32⟩
  | 51 => ⟨S4x12x64x64, .f32⟩
  | 52 => ⟨S4x12x1x192x64, .f32⟩
  | 53 => ⟨S4x12x192x64, .f32⟩
  | 54 => ⟨S4x12x448x64, .f32⟩
  | 55 => ⟨S4x12x1x64x64, .f32⟩
  | 56 => ⟨S4x12x64x64, .f32⟩
  | 57 => ⟨S4x12x64x448, .f32⟩
  | 58 => ⟨S_, .f32⟩
  | 59 => ⟨S4x12x64x448, .f32⟩
  | 60 => ⟨S4x12x64x448, .f32⟩
  | 61 => ⟨S4x1x1x192, .f32⟩
  | 62 => ⟨S4x1x1x64, .f32⟩
  | 63 => ⟨S_, .f32⟩
  | 64 => ⟨S4x1x1x192, .f32⟩
  | 65 => ⟨S4x1x1x448, .f32⟩
  | 66 => ⟨S_, .f32⟩
  | 67 => ⟨S4x12x64x256, .f32⟩
  | 68 => ⟨S4x12x1x64x192, .f32⟩
  | 69 => ⟨S4x12x64x192, .f32⟩
  | 70 => ⟨S4x12x64x448, .f32⟩
  | 71 => ⟨S4x12x64x448, .f32⟩
  | 72 => ⟨S4x12x64x448, .f32⟩
  | 73 => ⟨S_, .f32⟩
  | 74 => ⟨S4x12x64x448, .f32⟩
  | 75 => ⟨S4x12x64x448, .f32⟩
  | 76 => ⟨S_, .f32⟩
  | 77 => ⟨S4x12x64x448, .f32⟩
  | 78 => ⟨S4x12x64x448, .f32⟩
  | 79 => ⟨S4x12x64x448, .f32⟩
  | 80 => ⟨S_, .f32⟩
  | 81 => ⟨S4x12x64, .f32⟩
  | 82 => ⟨S_, .f32⟩
  | 83 => ⟨S4x12x64, .f32⟩
  | 84 => ⟨S4x12x64, .f32⟩
  | 85 => ⟨S4x12x64x1, .f32⟩
  | 86 => ⟨S4x12x64x448, .f32⟩
  | 87 => ⟨S4x12x64x448, .f32⟩
  | 88 => ⟨S4x12x64x448, .f32⟩
  | 89 => ⟨S_, .f32⟩
  | 90 => ⟨S4x12x64, .f32⟩
  | 91 => ⟨S4x12x64x1, .f32⟩
  | 92 => ⟨S4x12x64x448, .f32⟩
  | 93 => ⟨S4x12x64x448, .f32⟩
  | 94 => ⟨S4x12x64x64, .f32⟩
  | 95 => ⟨S4x12x1x64x64, .f32⟩
  | 96 => ⟨S4x12x60x64x64, .f32⟩
  | 97 => ⟨S4x12x60x64x64, .f32⟩
  | 98 => ⟨S4x12x60x64x64, .f32⟩
  | 99 => ⟨S4x12x60x192x64, .f32⟩
  | 100 => ⟨S4x12x60x64x64, .f32⟩
  | 101 => ⟨S4x12x60x64x64, .f32⟩
  | 102 => ⟨S4x12x60x64x64, .f32⟩
  | 103 => ⟨S4x12x60x192x64, .f32⟩
  | 104 => ⟨S4x12x60x64x64, .f32⟩
  | 105 => ⟨S4x12x60x64x192, .f32⟩
  | 106 => ⟨S_, .f32⟩
  | 107 => ⟨S4x12x60x64x192, .f32⟩
  | 108 => ⟨S4x12x60x64x192, .f32⟩
  | 109 => ⟨S_, .f32⟩
  | 110 => ⟨S4x1x60x64x192, .f32⟩
  | 111 => ⟨S4x1x60x64x192, .f32⟩
  | 112 => ⟨S_, .f32⟩
  | 113 => ⟨S4x1x60x64x192, .f32⟩
  | 114 => ⟨S4x1x60x64x192, .f32⟩
  | 115 => ⟨S4x12x60x64x192, .f32⟩
  | 116 => ⟨S4x12x60x64x192, .f32⟩
  | 117 => ⟨S4x12x60x192x64, .f32⟩
  | 118 => ⟨S4x12x60x64x192, .f32⟩
  | 119 => ⟨S_, .f32⟩
  | 120 => ⟨S4x12x60x64x192, .f32⟩
  | 121 => ⟨S4x12x60x64x192, .f32⟩
  | 122 => ⟨S4x12x60x64x192, .f32⟩
  | 123 => ⟨S_, .f32⟩
  | 124 => ⟨S4x12x60x64x192, .f32⟩
  | 125 => ⟨S4x12x60x64x192, .f32⟩
  | 126 => ⟨S_, .f32⟩
  | 127 => ⟨S4x12x60x64x192, .f32⟩
  | _ => ⟨S4x4096x768, .f32⟩

abbrev hbmTy0_2 (i : Nat) : BufTy := match i % 128 with
  | 0 => ⟨S4x12x60x64x192, .f32⟩
  | 1 => ⟨S4x12x60x64x192, .f32⟩
  | 2 => ⟨S4x12x1x64x64, .f32⟩
  | 3 => ⟨S4x12x64x64, .f32⟩
  | 4 => ⟨S4x12x60x64x64, .f32⟩
  | 5 => ⟨S_, .f32⟩
  | 6 => ⟨S4x12x60x64x64, .f32⟩
  | 7 => ⟨S4x12x60x64x64, .f32⟩
  | 8 => ⟨S4x1x1x64, .f32⟩
  | 9 => ⟨S4x1x1x1x64, .f32⟩
  | 10 => ⟨S_, .f32⟩
  | 11 => ⟨S4x1x1x1x64, .f32⟩
  | 12 => ⟨S4x1x1x1x64, .f32⟩
  | 13 => ⟨S_, .f32⟩
  | 14 => ⟨S4x1x1x1x64, .f32⟩
  | 15 => ⟨S4x1x1x1x64, .f32⟩
  | 16 => ⟨S4x12x60x64x64, .f32⟩
  | 17 => ⟨S4x12x60x64x64, .f32⟩
  | 18 => ⟨S4x12x1x64x64, .f32⟩
  | 19 => ⟨S4x12x64x64, .f32⟩
  | 20 => ⟨S4x12x60x64x64, .f32⟩
  | 21 => ⟨S_, .f32⟩
  | 22 => ⟨S4x12x60x64x64, .f32⟩
  | 23 => ⟨S4x12x60x64x64, .f32⟩
  | 24 => ⟨S4x1x1x64, .f32⟩
  | 25 => ⟨S4x1x1x1x64, .f32⟩
  | 26 => ⟨S_, .f32⟩
  | 27 => ⟨S4x1x1x1x64, .f32⟩
  | 28 => ⟨S4x1x1x1x64, .f32⟩
  | 29 => ⟨S_, .f32⟩
  | 30 => ⟨S4x1x1x1x64, .f32⟩
  | 31 => ⟨S4x1x1x1x64, .f32⟩
  | 32 => ⟨S4x12x60x64x64, .f32⟩
  | 33 => ⟨S4x12x60x64x64, .f32⟩
  | 34 => ⟨S4x12x60x64x512, .f32⟩
  | 35 => ⟨S_, .f32⟩
  | 36 => ⟨S4x12x60x64, .f32⟩
  | 37 => ⟨S_, .f32⟩
  | 38 => ⟨S4x12x60x64, .f32⟩
  | 39 => ⟨S4x12x60x64, .f32⟩
  | 40 => ⟨S4x12x60x64x1, .f32⟩
  | 41 => ⟨S4x12x60x64x512, .f32⟩
  | 42 => ⟨S4x12x60x64x512, .f32⟩
  | 43 => ⟨S4x12x60x64x512, .f32⟩
  | 44 => ⟨S_, .f32⟩
  | 45 => ⟨S4x12x60x64, .f32⟩
  | 46 => ⟨S4x12x60x64x1, .f32⟩
  | 47 => ⟨S4x12x60x64x512, .f32⟩
  | 48 => ⟨S4x12x60x64x512, .f32⟩
  | 49 => ⟨S4x12x60x64x192, .f32⟩
  | 50 => ⟨S4x12x60x64x64, .f32⟩
  | 51 => ⟨S4x12x60x64x192, .f32⟩
  | 52 => ⟨S4x12x60x192x64, .f32⟩
  | 53 => ⟨S4x12x60x64x64, .f32⟩
  | 54 => ⟨S4x12x60x64x64, .f32⟩
  | 55 => ⟨S4x12x60x64x64, .f32⟩
  | 56 => ⟨S4x12x1x64x64, .f32⟩
  | 57 => ⟨S4x12x64x64, .f32⟩
  | 58 => ⟨S4x12x60x64x64, .f32⟩
  | 59 => ⟨S4x12x60x64x64, .f32⟩
  | 60 => ⟨S4x12x60x64x64, .f32⟩
  | 61 => ⟨S4x12x1x64x64, .f32⟩
  | 62 => ⟨S4x12x64x64, .f32⟩
  | 63 => ⟨S4x12x60x64x64, .f32⟩
  | 64 => ⟨S4x12x60x64x64, .f32⟩
  | 65 => ⟨S4x12x1x64x64, .f32⟩
  | 66 => ⟨S4x12x64x64, .f32⟩
  | 67 => ⟨S4x12x1x64x64, .f32⟩
  | 68 => ⟨S4x12x64x64, .f32⟩
  | 69 => ⟨S4x12x1x64x64, .f32⟩
  | 70 => ⟨S4x12x64x64, .f32⟩
  | 71 => ⟨S4x12x1x64x64, .f32⟩
  | 72 => ⟨S4x12x64x64, .f32⟩
  | 73 => ⟨S4x12x1x192x64, .f32⟩
  | 74 => ⟨S4x12x192x64, .f32⟩
  | 75 => ⟨S4x12x448x64, .f32⟩
  | 76 => ⟨S4x12x1x64x64, .f32⟩
  | 77 => ⟨S4x12x64x64, .f32⟩
  | 78 => ⟨S4x12x1x64x64, .f32⟩
  | 79 => ⟨S4x12x64x64, .f32⟩
  | 80 => ⟨S4x12x1x64x64, .f32⟩
  | 81 => ⟨S4x12x64x64, .f32⟩
  | 82 => ⟨S4x12x1x64x64, .f32⟩
  | 83 => ⟨S4x12x64x64, .f32⟩
  | 84 => ⟨S4x12x1x192x64, .f32⟩
  | 85 => ⟨S4x12x192x64, .f32⟩
  | 86 => ⟨S4x12x448x64, .f32⟩
  | 87 => ⟨S4x12x1x64x64, .f32⟩
  | 88 => ⟨S4x12x64x64, .f32⟩
  | 89 => ⟨S4x12x64x448, .f32⟩
  | 90 => ⟨S_, .f32⟩
  | 91 => ⟨S4x12x64x448, .f32⟩
  | 92 => ⟨S4x12x64x448, .f32⟩
  | 93 => ⟨S4x1x1x64, .f32⟩
  | 94 => ⟨S4x1x1x192, .f32⟩
  | 95 => ⟨S_, .f32⟩
  | 96 => ⟨S4x1x1x192, .f32⟩
  | 97 => ⟨S4x1x1x448, .f32⟩
  | 98 => ⟨S_, .f32⟩
  | 99 => ⟨S4x12x64x256, .f32⟩
  | 100 => ⟨S4x12x1x64x192, .f32⟩
  | 101 => ⟨S4x12x64x192, .f32⟩
  | 102 => ⟨S4x12x64x448, .f32⟩
  | 103 => ⟨S4x12x64x448, .f32⟩
  | 104 => ⟨S4x12x64x448, .f32⟩
  | 105 => ⟨S_, .f32⟩
  | 106 => ⟨S4x12x64x448, .f32⟩
  | 107 => ⟨S4x12x64x448, .f32⟩
  | 108 => ⟨S_, .f32⟩
  | 109 => ⟨S4x12x64x448, .f32⟩
  | 110 => ⟨S4x12x64x448, .f32⟩
  | 111 => ⟨S4x12x64x448, .f32⟩
  | 112 => ⟨S_, .f32⟩
  | 113 => ⟨S4x12x64, .f32⟩
  | 114 => ⟨S_, .f32⟩
  | 115 => ⟨S4x12x64, .f32⟩
  | 116 => ⟨S4x12x64, .f32⟩
  | 117 => ⟨S4x12x64x1, .f32⟩
  | 118 => ⟨S4x12x64x448, .f32⟩
  | 119 => ⟨S4x12x64x448, .f32⟩
  | 120 => ⟨S4x12x64x448, .f32⟩
  | 121 => ⟨S_, .f32⟩
  | 122 => ⟨S4x12x64, .f32⟩
  | 123 => ⟨S4x12x64x1, .f32⟩
  | 124 => ⟨S4x12x64x448, .f32⟩
  | 125 => ⟨S4x12x64x448, .f32⟩
  | 126 => ⟨S4x12x64x64, .f32⟩
  | 127 => ⟨S4x12x1x64x64, .f32⟩
  | _ => ⟨S4x4096x768, .f32⟩

abbrev hbmTy0_3 (i : Nat) : BufTy := match i % 128 with
  | 0 => ⟨S4x12x1x64x64, .f32⟩
  | 1 => ⟨S4x12x64x64, .f32⟩
  | 2 => ⟨S4x12x64x4096, .f32⟩
  | 3 => ⟨S_, .f32⟩
  | 4 => ⟨S4x12x64x4096, .f32⟩
  | 5 => ⟨S4x12x64x4096, .f32⟩
  | 6 => ⟨S_, .f32⟩
  | 7 => ⟨S4x1x1x4096, .f32⟩
  | 8 => ⟨S4x1x1x4096, .f32⟩
  | 9 => ⟨S_, .f32⟩
  | 10 => ⟨S4x1x1x4096, .f32⟩
  | 11 => ⟨S4x1x1x4096, .f32⟩
  | 12 => ⟨S4x12x64x4096, .f32⟩
  | 13 => ⟨S4x12x64x4096, .f32⟩
  | 14 => ⟨S_, .f32⟩
  | 15 => ⟨S4x12x64, .f32⟩
  | 16 => ⟨S_, .f32⟩
  | 17 => ⟨S4x12x64, .f32⟩
  | 18 => ⟨S4x12x64, .f32⟩
  | 19 => ⟨S4x12x64x1, .f32⟩
  | 20 => ⟨S4x12x64x4096, .f32⟩
  | 21 => ⟨S4x12x64x4096, .f32⟩
  | 22 => ⟨S4x12x64x4096, .f32⟩
  | 23 => ⟨S_, .f32⟩
  | 24 => ⟨S4x12x64, .f32⟩
  | 25 => ⟨S4x12x64x1, .f32⟩
  | 26 => ⟨S4x12x64x4096, .f32⟩
  | 27 => ⟨S4x12x64x4096, .f32⟩
  | 28 => ⟨S4x12x64x64, .f32⟩
  | 29 => ⟨S4x12x1x64x64, .f32⟩
  | 30 => ⟨S4x12x64x64x64, .f32⟩
  | 31 => ⟨S4x12x4096x64, .f32⟩
  | 32 => ⟨S4x12x4096x64, .f32⟩
  | 33 => ⟨S4x12x4096x64, .f32⟩
  | 34 => ⟨S4x4096x12x64, .f32⟩
  | 35 => ⟨S4x4096x768, .f32⟩
  | _ => ⟨S4x4096x768, .f32⟩

abbrev hbmTy (i : Nat) : BufTy := match i / 128 with
  | 0 => hbmTy0_0 i
  | 1 => hbmTy0_1 i
  | 2 => hbmTy0_2 i
  | 3 => hbmTy0_3 i
  | _ => ⟨S4x4096x768, .f32⟩

abbrev bufTy : (tb : Table) → Fin (tcTables nBuf tb) → BufTy
  | .hbm, ⟨i, _⟩ => hbmTy i
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_0 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_4 : Ref sig .tc := ⟨.hbm, 73, rfl⟩
abbrev main_v56 : Ref sig .tc := ⟨.hbm, 74, rfl⟩
abbrev main_v57 : Ref sig .tc := ⟨.hbm, 75, rfl⟩
abbrev main_c_5 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_6 : Ref sig .tc := ⟨.hbm, 80, rfl⟩
abbrev main_v61 : Ref sig .tc := ⟨.hbm, 81, rfl⟩
abbrev main_v62 : Ref sig .tc := ⟨.hbm, 82, rfl⟩
abbrev main_c_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_8 : Ref sig .tc := ⟨.hbm, 87, rfl⟩
abbrev main_v66 : Ref sig .tc := ⟨.hbm, 88, rfl⟩
abbrev main_v67 : Ref sig .tc := ⟨.hbm, 89, rfl⟩
abbrev main_c_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_10 : Ref sig .tc := ⟨.hbm, 102, rfl⟩
abbrev main_v79 : Ref sig .tc := ⟨.hbm, 103, rfl⟩
abbrev main_v80 : Ref sig .tc := ⟨.hbm, 104, rfl⟩
abbrev main_c_11 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_12 : Ref sig .tc := ⟨.hbm, 109, rfl⟩
abbrev main_v84 : Ref sig .tc := ⟨.hbm, 110, rfl⟩
abbrev main_v85 : Ref sig .tc := ⟨.hbm, 111, rfl⟩
abbrev main_c_13 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_14 : Ref sig .tc := ⟨.hbm, 116, rfl⟩
abbrev main_v89 : Ref sig .tc := ⟨.hbm, 117, rfl⟩
abbrev main_v90 : Ref sig .tc := ⟨.hbm, 118, rfl⟩
abbrev main_c_15 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst : Ref sig .tc := ⟨.hbm, 134, rfl⟩
abbrev main_v105 : Ref sig .tc := ⟨.hbm, 135, rfl⟩
abbrev main_v106 : Ref sig .tc := ⟨.hbm, 136, rfl⟩
abbrev main_cst_16 : Ref sig .tc := ⟨.hbm, 137, rfl⟩
abbrev main_v107 : Ref sig .tc := ⟨.hbm, 138, rfl⟩
abbrev main_v108 : Ref sig .tc := ⟨.hbm, 139, rfl⟩
abbrev main_cst_17 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_18 : Ref sig .tc := ⟨.hbm, 145, rfl⟩
abbrev main_v113 : Ref sig .tc := ⟨.hbm, 146, rfl⟩
abbrev main_cst_19 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_20 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_21 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_22 : Ref sig .tc := ⟨.hbm, 191, rfl⟩
abbrev main_v155 : Ref sig .tc := ⟨.hbm, 192, rfl⟩
abbrev main_v156 : Ref sig .tc := ⟨.hbm, 193, rfl⟩
abbrev main_cst_23 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_24 : Ref sig .tc := ⟨.hbm, 201, rfl⟩
abbrev main_v163 : Ref sig .tc := ⟨.hbm, 202, rfl⟩
abbrev main_v164 : Ref sig .tc := ⟨.hbm, 203, rfl⟩
abbrev main_cst_25 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_26 : Ref sig .tc := ⟨.hbm, 208, rfl⟩
abbrev main_v168 : Ref sig .tc := ⟨.hbm, 209, rfl⟩
abbrev main_cst_27 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_28 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_29 : Ref sig .tc := ⟨.hbm, 234, rfl⟩
abbrev main_v191 : Ref sig .tc := ⟨.hbm, 235, rfl⟩
abbrev main_v192 : Ref sig .tc := ⟨.hbm, 236, rfl⟩
abbrev main_cst_30 : Ref sig .tc := ⟨.hbm, 237, rfl⟩
abbrev main_v193 : Ref sig .tc := ⟨.hbm, 238, rfl⟩
abbrev main_v194 : Ref sig .tc := ⟨.hbm, 239, rfl⟩
abbrev main_cst_31 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_cst_32 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_cst_33 : Ref sig .tc := ⟨.hbm, 251, rfl⟩
abbrev main_v204 : Ref sig .tc := ⟨.hbm, 252, rfl⟩
abbrev main_v205 : Ref sig .tc := ⟨.hbm, 253, rfl⟩
abbrev main_cst_34 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_cst_35 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_cst_36 : Ref sig .tc := ⟨.hbm, 266, rfl⟩
abbrev main_v216 : Ref sig .tc := ⟨.hbm, 267, rfl⟩
abbrev main_v217 : Ref sig .tc := ⟨.hbm, 268, rfl⟩
abbrev main_cst_37 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_cst_38 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_cst_39 : Ref sig .tc := ⟨.hbm, 282, rfl⟩
abbrev main_v229 : Ref sig .tc := ⟨.hbm, 283, rfl⟩
abbrev main_v230 : Ref sig .tc := ⟨.hbm, 284, rfl⟩
abbrev main_cst_40 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_cst_41 : Ref sig .tc := ⟨.hbm, 291, rfl⟩
abbrev main_v236 : Ref sig .tc := ⟨.hbm, 292, rfl⟩
abbrev main_cst_42 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_cst_43 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_cst_44 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_cst_45 : Ref sig .tc := ⟨.hbm, 351, rfl⟩
abbrev main_v292 : Ref sig .tc := ⟨.hbm, 352, rfl⟩
abbrev main_v293 : Ref sig .tc := ⟨.hbm, 353, rfl⟩
abbrev main_cst_46 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_cst_47 : Ref sig .tc := ⟨.hbm, 361, rfl⟩
abbrev main_v300 : Ref sig .tc := ⟨.hbm, 362, rfl⟩
abbrev main_v301 : Ref sig .tc := ⟨.hbm, 363, rfl⟩
abbrev main_cst_48 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_cst_49 : Ref sig .tc := ⟨.hbm, 368, rfl⟩
abbrev main_v305 : Ref sig .tc := ⟨.hbm, 369, rfl⟩
abbrev main_cst_50 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_cst_51 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_cst_52 : Ref sig .tc := ⟨.hbm, 387, rfl⟩
abbrev main_v321 : Ref sig .tc := ⟨.hbm, 388, rfl⟩
abbrev main_v322 : Ref sig .tc := ⟨.hbm, 389, rfl⟩
abbrev main_cst_53 : Ref sig .tc := ⟨.hbm, 390, rfl⟩
abbrev main_v323 : Ref sig .tc := ⟨.hbm, 391, rfl⟩
abbrev main_v324 : Ref sig .tc := ⟨.hbm, 392, rfl⟩
abbrev main_cst_54 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_cst_55 : Ref sig .tc := ⟨.hbm, 398, rfl⟩
abbrev main_v329 : Ref sig .tc := ⟨.hbm, 399, rfl⟩
abbrev main_cst_56 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_cst_57 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_v346 : Ref sig .tc := ⟨.hbm, 418, rfl⟩
abbrev main_v347 : Ref sig .tc := ⟨.hbm, 419, rfl⟩

abbrev nD : Nat := 1
abbrev τ : Topo := Topo.v7x

variable {F : FTy → Type} [FloatOps F]
-- ==== Proof.ITrip.lean ====
module

public import proofs.«01_k».proof.Proof.Gen.KernelIdeal.Loops

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A word below 64 names a block of 64 rows inside the 4096 rows. -/
theorem row_inb {w : BitVec 32} (h : w.toNat < 64) (c : ℕ) (hc : c ≤ 64) (a : Fin 3) :
    (![0, (Scalar.indexCast (Scalar.muli w 64#32) : BitVec 32).toNat, c] : Fin 3 → ℕ) a + S1x64x64.size a ≤ S1x4096x128.size a := by
  have e : (Scalar.indexCast (Scalar.muli w 64#32) : BitVec 32).toNat = w.toNat * 64 := by
    show (w * 64#32).toNat = _
    rw [BitVec.toNat_mul]; exact Nat.mod_eq_of_lt (by show w.toNat * 64 < 2 ^ 32; omega)
  fin_cases a
  · show 0 + 1 ≤ 1; omega
  · show (Scalar.indexCast (Scalar.muli w 64#32) : BitVec 32).toNat + 64 ≤ 4096; omega
  · show c + 64 ≤ 128; omega

theorem chk1_of_lt {w : BitVec 32} (h : w.toNat < 64) : k1_chk1 w := ⟨row_inb h 0 (by omega), row_inb h 0 (by omega)⟩
theorem chk2_of_lt {w : BitVec 32} (h : w.toNat < 64) : k1_chk2 w := ⟨row_inb h 0 (by omega), row_inb h 0 (by omega)⟩
theorem chk3_of_lt {w : BitVec 32} (h : w.toNat < 64) : k1_chk3 w := row_inb h 0 (by omega)
theorem chk4_of_lt {w : BitVec 32} (h : w.toNat < 64) : k1_chk4 w := ⟨row_inb h 64 (by omega), row_inb h 64 (by omega)⟩
theorem chk5_of_lt {w : BitVec 32} (h : w.toNat < 64) : k1_chk5 w := ⟨row_inb h 64 (by omega), row_inb h 64 (by omega)⟩
theorem chk6_of_lt {w : BitVec 32} (h : w.toNat < 64) : k1_chk6 w := row_inb h 64 (by omega)

section Values

variable (T : S12x62x3.Idx → BitVec 32) (hT : ∀ j, (T j).toNat < 64) (q k v : Vec F S1x4096x128 .bf16)

/-- What a load of the rectangle `r` reads of a block. -/
abbrev rd (x : Vec F S1x4096x128 .bf16) (r : Rect S1x4096x128) : Vec F r.shape .bf16 := fun j => x (r.toLoadRect.idx j)

/-- The table's word at `o`. -/
def word (o : Fin 3 → ℕ) (h : ∀ a, o a + S1x1x1.size a ≤ S12x62x3.size a) : BitVec 32 :=
  T ((Rect.unit (s := S12x62x3) o S1x1x1.size h).toLoadRect.idx (Shape.Idx.first ((show S1x1x1.numel = 1 from numel1_S1x1x1).symm ▸ Nat.one_pos)))

include hT in
theorem word_lt (o : Fin 3 → ℕ) (h : ∀ a, o a + S1x1x1.size a ≤ S12x62x3.size a) : (word T o h).toNat < 64 := hT _

variable (i : grid1.Coords) (v0 : IVec S64x512 32) (t : Fin k1_t1_loop.trips)

/-- The keys' (`x` the key block) eight parts that a trip reads for its first head. -/
abbrev cat0 (x : Vec F S1x4096x128 .bf16) : FVec F S512x64 .bf16 :=
  Gen.k1_pay4 (Gen.k1_pay3 (rd x (Rect.unit (s := S1x4096x128) ![0, 0, 0] S1x64x64.size Gen.inb_S1x4096x128_S1x64x64_0_0_0)))
    (rd x (Rect.unit (s := S1x4096x128) (k1_off4 t) S1x192x64.size (k1_off4_inb t)))
    (rd x (Rect.unit (s := S1x4096x128) (k1_off5 (word T (k1_off1 i t) (k1_off1_inb i t))) S1x64x64.size (k1_off5_inb _ (chk1_of_lt (word_lt T hT _ _)))))
    (rd x (Rect.unit (s := S1x4096x128) (k1_off6 (word T (k1_off2 i t) (k1_off2_inb i t))) S1x64x64.size (k1_off6_inb _ (chk2_of_lt (word_lt T hT _ _)))))
    (rd x (Rect.unit (s := S1x4096x128) (k1_off7 (word T (k1_off3 i t) (k1_off3_inb i t))) S1x64x64.size (k1_off7_inb _ (chk3_of_lt (word_lt T hT _ _)))))
    (rd x (Rect.unit (s := S1x4096x128) ![0, 4032, 0] S1x64x64.size Gen.inb_S1x4096x128_S1x64x64_0_4032_0))

/-- The first head's rows of a trip. -/
def head0 : FVec F S64x64 .f32 :=
  Gen.k1_pay9 (Gen.k1_pay2 v0 1#32 1#32 t) (cat0 T hT i t k)
    (Gen.k1_pay5 (rd v (Rect.unit (s := S1x4096x128) ![0, 0, 0] S1x64x64.size Gen.inb_S1x4096x128_S1x64x64_0_0_0)))
    (Gen.k1_pay6 (rd v (Rect.unit (s := S1x4096x128) (k1_off8 t) S1x192x64.size (k1_off8_inb t))))
    (Gen.k1_pay7 (rd v (Rect.unit (s := S1x4096x128) (k1_off9 (word T (k1_off1 i t) (k1_off1_inb i t))) S1x64x64.size (k1_off9_inb _ (chk1_of_lt (word_lt T hT _ _))))))
    (Gen.k1_pay8 (rd v (Rect.unit (s := S1x4096x128) (k1_off10 (word T (k1_off2 i t) (k1_off2_inb i t))) S1x64x64.size (k1_off10_inb _ (chk2_of_lt (word_lt T hT _ _))))))
    (rd v (Rect.unit (s := S1x4096x128) (k1_off7 (word T (k1_off3 i t) (k1_off3_inb i t))) S1x64x64.size (k1_off7_inb _ (chk3_of_lt (word_lt T hT _ _)))))
    (rd v (Rect.unit (s := S1x4096x128) ![0, 4032, 0] S1x64x64.size Gen.inb_S1x4096x128_S1x64x64_0_4032_0))
    (rd q (Rect.unit (s := S1x4096x128) (k1_off11 t) S1x64x64.size (k1_off11_inb t)))

/-- The keys' eight parts that a trip reads for its second head. -/
def cat1 : FVec F S512x64 .bf16 :=
  Gen.k1_pay10 (rd k (Rect.unit (s := S1x4096x128) ![0, 0, 64] S1x64x64.size Gen.inb_S1x4096x128_S1x64x64_0_0_64))
    (rd k (Rect.unit (s := S1x4096x128) (k1_off15 t) S1x192x64.size (k1_off15_inb t)))
    (rd k (Rect.unit (s := S1x4096x128) (k1_off16 (word T (k1_off12 i t) (k1_off12_inb i t))) S1x64x64.size (k1_off16_inb _ (chk4_of_lt (word_lt T hT _ _)))))
    (rd k (Rect.unit (s := S1x4096x128) (k1_off17 (word T (k1_off13 i t) (k1_off13_inb i t))) S1x64x64.size (k1_off17_inb _ (chk5_of_lt (word_lt T hT _ _)))))
    (rd k (Rect.unit (s := S1x4096x128) (k1_off18 (word T (k1_off14 i t) (k1_off14_inb i t))) S1x64x64.size (k1_off18_inb _ (chk6_of_lt (word_lt T hT _ _)))))
    (rd k (Rect.unit (s := S1x4096x128) ![0, 4032, 64] S1x64x64.size Gen.inb_S1x4096x128_S1x64x64_0_4032_64))

/-- What a trip stores: its two heads' rows side by side. -/
def tripPay : FVec F S1x64x128 .f32 :=
  Gen.k1_pay13 (Gen.k1_pay2 v0 1#32 1#32 t) (head0 T hT q k v i v0 t) (cat1 T hT k i t)
    (Gen.k1_pay11 (rd v (Rect.unit (s := S1x4096x128) ![0, 0, 64] S1x64x64.size Gen.inb_S1x4096x128_S1x64x64_0_0_64)))
    (Gen.k1_pay12 (rd v (Rect.unit (s := S1x4096x128) (k1_off19 t) S1x192x64.size (k1_off19_inb t))))
    (rd v (Rect.unit (s := S1x4096x128) (k1_off20 (word T (k1_off12 i t) (k1_off12_inb i t))) S1x64x64.size (k1_off20_inb _ (chk4_of_lt (word_lt T hT _ _)))))
    (rd v (Rect.unit (s := S1x4096x128) (k1_off21 (word T (k1_off13 i t) (k1_off13_inb i t))) S1x64x64.size (k1_off21_inb _ (chk5_of_lt (word_lt T hT _ _)))))
    (rd v (Rect.unit (s := S1x4096x128) (k1_off18 (word T (k1_off14 i t) (k1_off14_inb i t))) S1x64x64.size (k1_off18_inb _ (chk6_of_lt (word_lt T hT _ _)))))
    (rd v (Rect.unit (s := S1x4096x128) ![0, 4032, 64] S1x64x64.size Gen.inb_S1x4096x128_S1x64x64_0_4032_64))
    (rd q (Rect.unit (s := S1x4096x128) (k1_off22 t) S1x64x64.size (k1_off22_inb t)))

/-- The piece of the result block that a trip stores. -/
def piece : View.Piece (Elt F) S1x4096x128 .f32 :=
  ⟨Rect.unit (s := S1x4096x128) (k1_off23 t) S1x64x128.size (k1_off23_inb t), tripPay T hT q k v i v0 t⟩

/-- The pieces of the trips before `n`, newest first, over what was stored before the loop. -/
def pieces (L : List (View.Piece (Elt F) S1x4096x128 .f32)) : ℕ → List (View.Piece (Elt F) S1x4096x128 .f32)
  | 0 => L
  | n + 1 => if h : n < k1_t1_loop.trips then piece T hT q k v i v0 ⟨n, h⟩ :: pieces L n else pieces L n

/-- The first block's rows, which attend everywhere. -/
def firstPay : FVec F S1x64x128 .f32 :=
  Gen.k1_pay18
    (Gen.k1_pay14 (rd q (Rect.unit (s := S1x4096x128) ![0, 0, 0] S1x64x64.size Gen.inb_S1x4096x128_S1x64x64_0_0_0))
      (rd k (Rect.unit (s := S1x4096x128) ![0, 0, 0] S1x4096x64.size Gen.inb_S1x4096x128_S1x4096x64_0_0_0))
      (rd v (Rect.unit (s := S1x4096x128) ![0, 0, 0] S1x4096x64.size Gen.inb_S1x4096x128_S1x4096x64_0_0_0)))
    (Gen.k1_pay16 (rd q (Rect.unit (s := S1x4096x128) ![0, 0, 64] S1x64x64.size Gen.inb_S1x4096x128_S1x64x64_0_0_64))
      (rd k (Rect.unit (s := S1x4096x128) ![0, 0, 64] S1x4096x64.size Gen.inb_S1x4096x128_S1x4096x64_0_0_64))
      (rd v (Rect.unit (s := S1x4096x128) ![0, 0, 64] S1x4096x64.size Gen.inb_S1x4096x128_S1x4096x64_0_0_64)))
    (Gen.k1_pay17 (rd q (Rect.unit (s := S1x4096x128) ![0, 0, 64] S1x64x64.size Gen.inb_S1x4096x128_S1x64x64_0_0_64))
      (rd k (Rect.unit (s := S1x4096x128) ![0, 0, 64] S1x4096x64.size Gen.inb_S1x4096x128_S1x4096x64_0_0_64)))

/-- The last block's rows, which attend everywhere. -/
def lastPay : FVec F S1x64x128 .f32 :=
  Gen.k1_pay1
    (Gen.k1_pay19 (rd q (Rect.unit (s := S1x4096x128) ![0, 4032, 0] S1x64x64.size Gen.inb_S1x4096x128_S1x64x64_0_4032_0))
      (rd k (Rect.unit (s := S1x4096x128) ![0, 0, 0] S1x4096x64.size Gen.inb_S1x4096x128_S1x4096x64_0_0_0))
      (rd v (Rect.unit (s := S1x4096x128) ![0, 0, 0] S1x4096x64.size Gen.inb_S1x4096x128_S1x4096x64_0_0_0)))
    (Gen.k1_pay21 (rd q (Rect.unit (s := S1x4096x128) ![0, 4032, 64] S1x64x64.size Gen.inb_S1x4096x128_S1x64x64_0_4032_64))
      (rd k (Rect.unit (s := S1x4096x128) ![0, 0, 64] S1x4096x64.size Gen.inb_S1x4096x128_S1x4096x64_0_0_64)))
    (Gen.k1_pay22 (rd q (Rect.unit (s := S1x4096x128) ![0, 4032, 64] S1x64x64.size Gen.inb_S1x4096x128_S1x64x64_0_4032_64))
      (rd k (Rect.unit (s := S1x4096x128) ![0, 0, 64] S1x4096x64.size Gen.inb_S1x4096x128_S1x4096x64_0_0_64)))
    (rd v (Rect.unit (s := S1x4096x128) ![0, 0, 64] S1x4096x64.size Gen.inb_S1x4096x128_S1x4096x64_0_0_64))

/-- What is stored before the loop. -/
def ends : List (View.Piece (Elt F) S1x4096x128 .f32) :=
  [⟨Rect.unit (s := S1x4096x128) ![0, 4032, 0] S1x64x128.size Gen.inb_S1x4096x128_S1x64x128_0_4032_0, lastPay q k v⟩,
   ⟨Rect.unit (s := S1x4096x128) ![0, 0, 0] S1x64x128.size Gen.inb_S1x4096x128_S1x64x128_0_0_0, firstPay q k v⟩]

/-- All the pieces of a result block. -/
def allPieces : List (View.Piece (Elt F) S1x4096x128 .f32) :=
  pieces T hT q k v i (iota .tc S64x512 32 [1] iota_S64x512_d1_w32) (ends q k v) k1_t1_loop.trips

end Values

section Trip

variable (c : Dev nD) (i : grid1.Coords) (arg2 : Memref sig .tc .smem S12x62x3 .i32) (harg2 : arg2.IsWhole)
  (arg3 : Memref sig .tc .vmem S1x4096x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x4096x128 .f32) (harg6 : arg6.IsWhole)
  (arg1 : BitVec 32) (v0 : IVec S64x512 32)
  (X2 : arg2.view.ty.Contents (Elt F)) (X3 : arg3.view.ty.Contents (Elt F)) (X4 : arg4.view.ty.Contents (Elt F)) (X5 : arg5.view.ty.Contents (Elt F))

/-- What one trip of the loop touches: the table and the three operand blocks at their contents, the result block at `f`. -/
abbrev Trip (f : arg6.view.ty.Contents (Elt F)) : sProp 𝕄 :=
  iprop((arg2.view.loc (c : Thread nD τ) ↦{fullShare} X2) ∗ (arg3.view.loc (c : Thread nD τ) ↦{fullShare} X3)
    ∗ (arg4.view.loc (c : Thread nD τ) ↦{fullShare} X4) ∗ (arg5.view.loc (c : Thread nD τ) ↦{fullShare} X5)
    ∗ (arg6.view.loc (c : Thread nD τ) ↦{fullShare} f))

variable (hT : ∀ j, (arg2.view.read (Elt F) X2 j : BitVec 32).toNat < 64)

set_option maxHeartbeats 4000000 in
/-- One trip at a symbolic `k` stores its piece. -/
theorem trip_wp (k : Fin k1_t1_loop.trips) (f : arg6.view.ty.Contents (Elt F)) :
    Trip c arg2 arg3 arg4 arg5 arg6 X2 X3 X4 X5 f
      ⊢ wp frame (wpE defs₀ Variants.none (c : Thread nD τ) none) Set.univ
          (Gen.k1_t1_body (F := F) i arg2 harg2 arg3 harg3 arg4 harg4 arg5 harg5 arg6 harg6 arg1 v0 k ⟨⟩)
          (fun _ => Trip c arg2 arg3 arg4 arg5 arg6 X2 X3 X4 X5 (arg6.view.writes (Elt F) f
            [piece (arg2.view.read (Elt F) X2) hT (arg3.view.read (Elt F) X3) (arg4.view.read (Elt F) X4) (arg5.view.read (Elt F) X5) i v0 k])) := by
  unfold Gen.k1_t1_body
  iintro ⟨H2, H3, H4, H5, H6⟩
  sl_exec_parts (disch := (first
    | with_reducible refine chk1_of_lt ?_ | with_reducible refine chk2_of_lt ?_ | with_reducible refine chk3_of_lt ?_
    | with_reducible refine chk4_of_lt ?_ | with_reducible refine chk5_of_lt ?_ | with_reducible refine chk6_of_lt ?_) <;> exact hT _)
  sl_step
  sl_close

/-- The loop's invariant: the result block at the pieces of the trips before `n` over what it held before the loop. -/
def inv (G : arg6.view.ty.Contents (Elt F)) (L : List (View.Piece (Elt F) S1x4096x128 .f32)) (n : ℕ) (_ : Unit) : sProp 𝕄 :=
  iprop((arg2.view.loc (c : Thread nD τ) ↦{fullShare} X2) ∗ (arg3.view.loc (c : Thread nD τ) ↦{fullShare} X3)
    ∗ (arg4.view.loc (c : Thread nD τ) ↦{fullShare} X4) ∗ (arg5.view.loc (c : Thread nD τ) ↦{fullShare} X5)
    ∗ (∃ f, (arg6.view.loc (c : Thread nD τ) ↦{fullShare} f) ∗ ⌜f = arg6.view.writes (Elt F) G
        (pieces (arg2.view.read (Elt F) X2) hT (arg3.view.read (Elt F) X3) (arg4.view.read (Elt F) X4) (arg5.view.read (Elt F) X5) i v0 L n)⌝))

theorem inv_step (G : arg6.view.ty.Contents (Elt F)) (L : List (View.Piece (Elt F) S1x4096x128 .f32)) (k : Fin k1_t1_loop.trips) (u : Unit) :
    inv c i arg2 arg3 arg4 arg5 arg6 v0 X2 X3 X4 X5 hT G L k u
      ⊢ wp frame (wpE defs₀ Variants.none (c : Thread nD τ) none) Set.univ
          (Gen.k1_t1_body (F := F) i arg2 harg2 arg3 harg3 arg4 harg4 arg5 harg5 arg6 harg6 arg1 v0 k u)
          (inv c i arg2 arg3 arg4 arg5 arg6 v0 X2 X3 X4 X5 hT G L (k.val + 1)) := by
  unfold inv
  iintro ⟨H2, H3, H4, H5, ⟨%f, H6, %hf⟩⟩
  subst hf
  iapply (wp_wand_r frame (wpE defs₀ Variants.none (c : Thread nD τ) none) Set.univ (Q := fun _ => Trip c arg2 arg3 arg4 arg5 arg6 X2 X3 X4 X5 _))
  isplitl [H2 H3 H4 H5 H6]
  · iapply (trip_wp c i arg2 harg2 arg3 harg3 arg4 harg4 arg5 harg5 arg6 harg6 arg1 v0 X2 X3 X4 X5 hT k _)
    sl_close
  · iintro %_ ⟨H2, H3, H4, H5, H6⟩
    isplitl [H2]; · iexact H2
    isplitl [H3]; · iexact H3
    isplitl [H4]; · iexact H4
    isplitl [H5]; · iexact H5
    iexists _
    isplitl [H6]; · iexact H6
    ipureintro
    show _ = View.writes _ _ _ (pieces _ _ _ _ _ _ _ _ (k.val + 1))
    rw [pieces, dif_pos k.isLt]; rfl

/-- The loop's invariant, for the run through the loop. -/
@[sl_loop] def loopInv (G : arg6.view.ty.Contents (Elt F)) (L : List (View.Piece (Elt F) S1x4096x128 .f32)) :
    Gen.LoopInvTy_k1_t1 (F := F) Unit ℕ (UR sig nD τ) ℕ Variants.none c none Set.univ i arg2 harg2 arg3 harg3 arg4 harg4 arg5 harg5 arg6 harg6 arg1 v0 where
  inv := inv c i arg2 arg3 arg4 arg5 arg6 v0 X2 X3 X4 X5 hT G L
  step := inv_step c i arg2 harg2 arg3 harg3 arg4 harg4 arg5 harg5 arg6 harg6 arg1 v0 X2 X3 X4 X5 hT G L

set_option maxHeartbeats 8000000 in
/-- The whole body: the result block ends at all its pieces over what it held. -/
theorem body_wp (f : arg6.view.ty.Contents (Elt F)) :
    Trip c arg2 arg3 arg4 arg5 arg6 X2 X3 X4 X5 f
      ⊢ wp frame (wpE defs₀ Variants.none (c : Thread nD τ) none) Set.univ
          (cc1__attn_kernel (F := F) i arg2 harg2 arg3 harg3 arg4 harg4 arg5 harg5 arg6 harg6)
          (fun _ => Trip c arg2 arg3 arg4 arg5 arg6 X2 X3 X4 X5 (arg6.view.writes (Elt F) f
            (allPieces (arg2.view.read (Elt F) X2) hT (arg3.view.read (Elt F) X3) (arg4.view.read (Elt F) X4) (arg5.view.read (Elt F) X5) i))) := by
  rw [cc1__attn_kernel_eq_skeleton]; unfold cc1__attn_kernel_skel
  iintro ⟨H2, H3, H4, H5, H6⟩
  let L := loopInv c i arg2 harg2 arg3 harg3 arg4 harg4 arg5 harg5 arg6 harg6 (BitVec.ofNat 32 (i 1).val) (iota .tc S64x512 32 [1] iota_S64x512_d1_w32)
    X2 X3 X4 X5 hT f (ends (arg3.view.read (Elt F) X3) (arg4.view.read (Elt F) X4) (arg5.view.read (Elt F) X5))
  sl_exec_parts
  sl_step
  sl_close

end Trip

section Cover

variable (T : S12x62x3.Idx → BitVec 32) (hT : ∀ j, (T j).toNat < 64) (q k v : Vec F S1x4096x128 .bf16) (i : grid1.Coords) (v0 : IVec S64x512 32)

theorem trips_eq : k1_t1_loop.trips = 62 := by decide +kernel

theorem ends_mem_pieces (L : List (View.Piece (Elt F) S1x4096x128 .f32)) (n : ℕ) {p : View.Piece (Elt F) S1x4096x128 .f32} (hp : p ∈ L) :
    p ∈ pieces T hT q k v i v0 L n := by
  induction n with
  | zero => exact hp
  | succ n ih => rw [pieces]; split; (· exact List.mem_cons_of_mem _ ih); exact ih

theorem piece_mem_pieces (L : List (View.Piece (Elt F) S1x4096x128 .f32)) (n : ℕ) (t : Fin k1_t1_loop.trips) (h : t.val < n) :
    piece T hT q k v i v0 t ∈ pieces T hT q k v i v0 L n := by
  induction n with
  | zero => omega
  | succ n ih =>
    rw [pieces]
    rcases Nat.lt_succ_iff_lt_or_eq.mp h with h' | h'
    · split
      · exact List.mem_cons_of_mem _ (ih h')
      · exact ih h'
    · subst h'; rw [dif_pos t.isLt]; exact List.mem_cons_self

/-- The pieces are exactly the two end blocks' and the trips'. -/
theorem mem_pieces (L : List (View.Piece (Elt F) S1x4096x128 .f32)) (n : ℕ) {p : View.Piece (Elt F) S1x4096x128 .f32}
    (h : p ∈ pieces T hT q k v i v0 L n) : p ∈ L ∨ ∃ t, p = piece T hT q k v i v0 t := by
  induction n with
  | zero => exact .inl h
  | succ n ih =>
    rw [pieces] at h
    split at h
    · rcases List.mem_cons.mp h with h | h
      · exact .inr ⟨_, h⟩
      · exact ih h
    · exact ih h

/-- Every row of the result block is stored. -/
theorem cover (y : S1x4096x128.Idx) : ∃ p ∈ allPieces T hT q k v i, y ∈ p.1.set := by
  have h0 : (y 0).val < 1 := (y 0).isLt
  have h1 : (y 1).val < 4096 := (y 1).isLt
  have h2 : (y 2).val < 128 := (y 2).isLt
  by_cases ha : (y 1).val < 64
  · refine ⟨⟨Rect.unit (s := S1x4096x128) ![0, 0, 0] S1x64x128.size Gen.inb_S1x4096x128_S1x64x128_0_0_0, firstPay q k v⟩,
      ends_mem_pieces T hT q k v i _ _ _ (List.mem_cons_of_mem _ (List.mem_singleton.mpr rfl)), ?_⟩
    refine (Rect.mem_set_unit (inb := Gen.inb_S1x4096x128_S1x64x128_0_0_0)).mpr fun a => ?_
    fin_cases a <;> refine ⟨Nat.zero_le _, ?_⟩
    · show (y 0).val < 0 + 1; omega
    · show (y 1).val < 0 + 64; omega
    · show (y 2).val < 0 + 128; omega
  · by_cases hb : 4032 ≤ (y 1).val
    · refine ⟨⟨Rect.unit (s := S1x4096x128) ![0, 4032, 0] S1x64x128.size Gen.inb_S1x4096x128_S1x64x128_0_4032_0, lastPay q k v⟩,
        ends_mem_pieces T hT q k v i _ _ _ List.mem_cons_self, ?_⟩
      refine (Rect.mem_set_unit (inb := Gen.inb_S1x4096x128_S1x64x128_0_4032_0)).mpr fun a => ?_
      fin_cases a
      · show 0 ≤ (y 0).val ∧ (y 0).val < 0 + 1; omega
      · show 4032 ≤ (y 1).val ∧ (y 1).val < 4032 + 64; omega
      · show 0 ≤ (y 2).val ∧ (y 2).val < 0 + 128; omega
    · have ht : (y 1).val / 64 - 1 < k1_t1_loop.trips := by rw [trips_eq]; omega
      refine ⟨_, piece_mem_pieces T hT q k v i _ _ _ ⟨(y 1).val / 64 - 1, ht⟩ ht, ?_⟩
      unfold piece
      refine (Rect.mem_set_unit (inb := k1_off23_inb _)).mpr fun a => ?_
      rw [k1_off23_eq]
      fin_cases a
      · show 0 ≤ (y 0).val ∧ (y 0).val < 0 + 1; omega
      · show 64 * ((y 1).val / 64 - 1) + 64 ≤ (y 1).val ∧ (y 1).val < 64 * ((y 1).val / 64 - 1) + 64 + 64; omega
      · show 0 ≤ (y 2).val ∧ (y 2).val < 0 + 128; omega

end Cover

end Cert.Proof.KernelIdeal

end
-- ==== Proof.IData.lean ====
module

public import proofs.«01_k».proof.Proof.ITrip
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg)

variable {F : FTy → Type} [FloatOps F] [Named F]

local notation "𝕄" => MT nD τ sig Unit (Elt F) ℕ (UR sig nD τ) ℕ

/-! ## The table -/

/-- The table of random blocks, as the host writes it. -/
def tab : S12x62x3.Idx → BitVec 32 := fun i => lit0 (S12x62x3.rowMajor i)

theorem lit0_lt : ∀ a : Fin 36, ∀ b : Fin 62, (lit0 ⟨a.val * 62 + b.val, by omega⟩ : BitVec 32).toNat < 64 := by decide +kernel

theorem tab_lt (j : S12x62x3.Idx) : (tab j).toNat < 64 := by
  have h : (S12x62x3.rowMajor j).val < 2232 := (S12x62x3.rowMajor j).isLt
  have := lit0_lt ⟨(S12x62x3.rowMajor j).val / 62, by omega⟩ ⟨(S12x62x3.rowMajor j).val % 62, Nat.mod_lt _ (by omega)⟩
  have e : (⟨(S12x62x3.rowMajor j).val / 62 * 62 + (S12x62x3.rowMajor j).val % 62, by omega⟩ : Fin 2232) = S12x62x3.rowMajor j :=
    Fin.ext (Nat.div_add_mod' _ 62)
  show (lit0 (S12x62x3.rowMajor j) : BitVec 32).toNat < 64
  rw [← e]; exact this

/-- The pipelines' tables: the first region has none, the second the one above. -/
def adm : (p : Fin 2) → (pcfgs (F := F) p).Adm
  | ⟨0, _⟩ => cfg0.toPCfg_adm
  | ⟨1, _⟩ => ⟨fun | ⟨0, _⟩ => tab, trivial⟩

/-! ## The projection's body -/

/-- What the projection's body stores. -/
def projPieces (x : Vec F S1024x768 .f32) (w : Vec F S768x2304 .bf16) (b : Vec F S1x2304 .f32) : List (View.Piece (Elt F) S1024x2304 .bf16) :=
  [⟨Rect.unit (s := S1024x2304) ![0, 0] S1024x2304.size inb_S1024x2304_S1024x2304_0_0,
    k0_pay1 (fun j => x ((Rect.unit (s := S1024x768) ![0, 0] S1024x768.size inb_S1024x768_S1024x768_0_0).toLoadRect.idx j))
      (fun j => w ((Rect.unit (s := S768x2304) ![0, 0] S768x2304.size inb_S768x2304_S768x2304_0_0).toLoadRect.idx j))
      (fun j => b ((Rect.unit (s := S1x2304) ![0, 0] S1x2304.size inb_S1x2304_S1x2304_0_0).toLoadRect.idx j))⟩]

theorem projCover (x : Vec F S1024x768 .f32) (w : Vec F S768x2304 .bf16) (b : Vec F S1x2304 .f32) (y : S1024x2304.Idx) :
    ∃ p ∈ projPieces x w b, y ∈ p.1.set :=
  ⟨_, List.mem_cons_self, by
    refine (Rect.mem_set_unit (inb := inb_S1024x2304_S1024x2304_0_0)).mpr fun a => ?_
    fin_cases a
    · exact ⟨Nat.zero_le _, by show (y 0).val < 0 + 1024; have : (y 0).val < 1024 := (y 0).isLt; omega⟩
    · exact ⟨Nat.zero_le _, by show (y 1).val < 0 + 2304; have : (y 1).val < 2304 := (y 1).isLt; omega⟩⟩

section Proj

variable (c : Dev nD) (i : grid0.Coords) (arg1 : Memref sig .tc .vmem S1024x768 .f32) (harg1 : arg1.IsWhole)
  (arg2 : Memref sig .tc .vmem S768x2304 .bf16) (harg2 : arg2.IsWhole) (arg3 : Memref sig .tc .vmem S1x2304 .f32) (harg3 : arg3.IsWhole)
  (arg4 : Memref sig .tc .vmem S1024x2304 .bf16) (harg4 : arg4.IsWhole)
  (X1 : arg1.view.ty.Contents (Elt F)) (X2 : arg2.view.ty.Contents (Elt F)) (X3 : arg3.view.ty.Contents (Elt F))

/-- What the projection's body touches. -/
abbrev Proj (f : arg4.view.ty.Contents (Elt F)) : sProp 𝕄 :=
  iprop((arg1.view.loc (c : Thread nD τ) ↦{fullShare} X1) ∗ (arg2.view.loc (c : Thread nD τ) ↦{fullShare} X2)
    ∗ (arg3.view.loc (c : Thread nD τ) ↦{fullShare} X3) ∗ (arg4.view.loc (c : Thread nD τ) ↦{fullShare} f))

/-- The projection's body stores its piece. -/
theorem proj_wp (f : arg4.view.ty.Contents (Elt F)) :
    Proj c arg1 arg2 arg3 arg4 X1 X2 X3 f
      ⊢ wp frame (wpE defs₀ Variants.none (c : Thread nD τ) none) Set.univ
          (cc0__proj_kernel (F := F) i arg1 harg1 arg2 harg2 arg3 harg3 arg4 harg4)
          (fun _ => Proj c arg1 arg2 arg3 arg4 X1 X2 X3 (arg4.view.writes (Elt F) f
            (projPieces (arg1.view.read (Elt F) X1) (arg2.view.read (Elt F) X2) (arg3.view.read (Elt F) X3)))) := by
  rw [cc0__proj_kernel_eq_skeleton]; unfold cc0__proj_kernel_skel
  iintro ⟨H1, H2, H3, H4⟩
  sl_exec_parts
  sl_step
  sl_close

end Proj

/-! ## The proof data -/

variable (A B : Dev nD → Valuation τ sig (Elt F))

/-- What each operand of the projection is staged at a point: its block of the array. -/
abbrev blk0_0 (c : Dev nD) (t : Fin cfg0.N) : Vec F S1024x768 .f32 := ((cfg0.win 0).blk t).view.read (Elt F) (A c main_v10)
abbrev blk0_1 (c : Dev nD) (t : Fin cfg0.N) : Vec F S768x2304 .bf16 := ((cfg0.win 1).blk t).view.read (Elt F) (A c main_v11)
abbrev blk0_2 (c : Dev nD) (t : Fin cfg0.N) : Vec F S1x2304 .f32 := ((cfg0.win 2).blk t).view.read (Elt F) (A c main_v9)

/-- The projection's result block at a point. -/
def out0 (c : Dev nD) (t : Fin cfg0.N) : Vec F S1024x2304 .bf16 :=
  View.canon (projPieces (blk0_0 A c t) (blk0_1 A c t) (blk0_2 A c t))

/-- The scoped buffers that a region does not stage. -/
abbrev rest0 (c : Dev nD) : sProp 𝕄 := Pipeline.scopedRest (Ix := Unit) (Name := ℕ) (U := UR sig nD τ) (Lvl := ℕ) (Val := Elt F) spec0 c
abbrev rest1 (c : Dev nD) : sProp 𝕄 := Pipeline.scopedRest (Ix := Unit) (Name := ℕ) (U := UR sig nD τ) (Lvl := ℕ) (Val := Elt F) spec1 c

/-- The projection's proof data. -/
def dat0 (c : Dev nD) : Dat τ (Elt F) Unit ℕ (UR sig nD τ) ℕ cfg0 c where
  A w := A c (Pipeline.arrRef spec0 w)
  after w t := match w with
    | ⟨0, _⟩ => blk0_0 A c t
    | ⟨1, _⟩ => blk0_1 A c t
    | ⟨2, _⟩ => blk0_2 A c t
    | ⟨3, _⟩ => out0 A c t
  Φ _ := rest0 c
  q _ := fullShare
  owed _ := 0

/-- The attention's configuration at its table. -/
abbrev cfgA : Cfg sig Λ₀ := cfg1 (F := F) (adm 1)

/-- What each operand of the attention is staged at a point. -/
abbrev blk1_0 (c : Dev nD) (t : Fin (cfgA (F := F)).N) : Vec F S1x4096x128 .bf16 := (((cfgA (F := F)).win 0).blk t).view.read (Elt F) (B c main_v13)
abbrev blk1_1 (c : Dev nD) (t : Fin (cfgA (F := F)).N) : Vec F S1x4096x128 .bf16 := (((cfgA (F := F)).win 1).blk t).view.read (Elt F) (B c main_v13)
abbrev blk1_2 (c : Dev nD) (t : Fin (cfgA (F := F)).N) : Vec F S1x4096x128 .bf16 := (((cfgA (F := F)).win 2).blk t).view.read (Elt F) (B c main_v13)

/-- The attention's result block at a point. -/
def out1 (c : Dev nD) (t : Fin (cfgA (F := F)).N) : Vec F S1x4096x128 .f32 :=
  View.canon (allPieces tab tab_lt (blk1_0 B c t) (blk1_1 B c t) (blk1_2 B c t) (grid1.coords t))

/-- The attention's proof data. -/
def dat1 (c : Dev nD) : Dat τ (Elt F) Unit ℕ (UR sig nD τ) ℕ (cfgA (F := F)) c where
  A w := B c (Pipeline.arrRef spec1 w)
  after w t := match w with
    | ⟨0, _⟩ => blk1_0 B c t
    | ⟨1, _⟩ => blk1_1 B c t
    | ⟨2, _⟩ => blk1_2 B c t
    | ⟨3, _⟩ => out1 B c t
  Φ _ := iprop(rest1 c ∗ ((c : Thread nD τ).loc main_c ↦{fullShare} (tab : Buf (Elt F) ((c : Thread nD τ).loc main_c))))
  q w := Pipeline.shareOf spec1 w
  owed _ := 0

def pdats : (p : Fin 2) → (c : Dev nD) → Dat τ (Elt F) Unit ℕ (UR sig nD τ) ℕ (Pipeline.pin (pcfgs (F := F)) adm p) c
  | ⟨0, _⟩ => dat0 A
  | ⟨1, _⟩ => dat1 B

/-! ## The body obligations -/

/-- A whole memref owned at contents `X` is its buffer held at contents that read as `X`. -/
theorem owns_open (c : Thread nD τ) {sp : Space} {sh : Shape} {e : EltTy} (M : Memref sig c.2.kind sp sh e) (h : M.IsWhole) (X : sh.Idx → Elt F e) :
    (owns c M fullShare X : sProp 𝕄) = iprop(∃ f : Buf (Elt F) (M.view.loc c), ⌜M.view.read (Elt F) f = X⌝ ∗ (M.view.loc c ↦{fullShare} f)) := by
  obtain ⟨b, hsp, hsh, he, h⟩ := h
  subst hsp hsh he
  cases h
  unfold owns; simp only [Memref.view_whole, View.set_whole]

end Cert.Proof.KernelIdeal

end
-- ==== Proof.IObl0.lean ====
module

public import proofs.«01_k».proof.Proof.IData
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg)

variable {F : FTy → Type} [FloatOps F] [Named F]

local notation "𝕄" => MT nD τ sig Unit (Elt F) ℕ (UR sig nD τ) ℕ

variable (A B : Dev nD → Valuation τ sig (Elt F))

theorem before0_0 (c : Dev nD) (t : Fin cfg0.N) (d) : (dat0 A c).before 0 t d = blk0_0 A c t :=
  ((dat0 A c).before_in_eq_fetched 0 rfl (fun _ => rfl) (fun _ _ _ => rfl) (fun _ => rfl) t d).trans rfl
theorem before0_1 (c : Dev nD) (t : Fin cfg0.N) (d) : (dat0 A c).before 1 t d = blk0_1 A c t :=
  ((dat0 A c).before_in_eq_fetched 1 rfl (fun _ => rfl) (fun _ _ _ => rfl) (fun _ => rfl) t d).trans rfl
theorem before0_2 (c : Dev nD) (t : Fin cfg0.N) (d) : (dat0 A c).before 2 t d = blk0_2 A c t :=
  ((dat0 A c).before_in_eq_fetched 2 rfl (fun _ => rfl) (fun _ _ _ => rfl) (fun _ => rfl) t d).trans rfl

/-- What is read back of the pieces the projection stored. -/
theorem out0_read (c : Dev nD) (t : Fin cfg0.N) (M : Memref sig .tc .vmem S1024x2304 .bf16) (f : M.view.ty.Contents (Elt F)) (x : Vec F S1024x768 .f32)
    (w : Vec F S768x2304 .bf16) (b : Vec F S1x2304 .f32) (hx : x = blk0_0 A c t) (hw : w = blk0_1 A c t) (hb : b = blk0_2 A c t) :
    M.view.read (Elt F) (M.view.writes (Elt F) f (projPieces x w b)) = out0 A c t := by
  subst hx hw hb
  exact View.read_writes_eq_canon _ _ _ (projCover _ _ _)

attribute [local irreducible] projPieces out0 View.canon View.writes in
theorem obligation0 (c : Dev nD) : BodyObligation (dat0 A c) (defs₀ (F := F)) Variants.none () Set.univ := fun t => by
  rw [bigSep_W0, bigSep_W0]
  rw [show (dat0 A c).Φ t.castSucc = rest0 c from rfl, show (dat0 A c).Φ t.succ = rest0 c from rfl,
    show (dat0 A c).owesAt () t.succ = (dat0 A c).owesAt () t.castSucc from rfl]
  have E0 := owns_open (F := F) (c : Thread nD τ) (st0_0 t) (hstage0_0 ((cfg0.slots t 0).cast nbuf0_0))
  have E1 := owns_open (F := F) (c : Thread nD τ) (st0_1 t) (hstage0_1 ((cfg0.slots t 1).cast nbuf0_1))
  have E2 := owns_open (F := F) (c : Thread nD τ) (st0_2 t) (hstage0_2 ((cfg0.slots t 2).cast nbuf0_2))
  have E3 := owns_open (F := F) (c : Thread nD τ) (st0_3 t) (hstage0_3 ((cfg0.slots t 3).cast nbuf0_3))
  iintro ⟨HΦ, Howes, ⟨%d0, H0⟩, ⟨%d1, H1⟩, ⟨%d2, H2⟩, ⟨%d3, H3⟩⟩
  rw [before0_0, before0_1, before0_2]
  ihave H0 := (Entails.of_eq (E0 _)) $$ H0
  ihave H1 := (Entails.of_eq (E1 _)) $$ H1
  ihave H2 := (Entails.of_eq (E2 _)) $$ H2
  ihave H3 := (Entails.of_eq (E3 _)) $$ H3
  icases H0 with ⟨%f0, %hf0, H0⟩
  icases H1 with ⟨%f1, %hf1, H1⟩
  icases H2 with ⟨%f2, %hf2, H2⟩
  icases H3 with ⟨%f3, -, H3⟩
  iapply (wp_wand_r frame (wpE defs₀ Variants.none (c : Thread nD τ) none) Set.univ
    (Q := fun _ => Proj c (st0_0 t) (st0_1 t) (st0_2 t) (st0_3 t) f0 f1 f2 _))
  isplitl [H0 H1 H2 H3]
  · iapply (proj_wp c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) f0 f1 f2 f3)
    isplitl [H0]; · iexact H0
    isplitl [H1]; · iexact H1
    isplitl [H2]; · iexact H2
    iexact H3
  · iintro %_ ⟨H0, H1, H2, H3⟩
    isplitl [HΦ]; · iexact HΦ
    isplitl [Howes]; · iexact Howes
    isplitl [H0]
    · iapply (Entails.of_eq (E0 (blk0_0 A c t)).symm); iexists _; isplitr; swap; (· iexact H0); ipureintro; exact hf0
    isplitl [H1]
    · iapply (Entails.of_eq (E1 (blk0_1 A c t)).symm); iexists _; isplitr; swap; (· iexact H1); ipureintro; exact hf1
    isplitl [H2]
    · iapply (Entails.of_eq (E2 (blk0_2 A c t)).symm); iexists _; isplitr; swap; (· iexact H2); ipureintro; exact hf2
    iapply (Entails.of_eq (E3 ((dat0 A c).after 3 t)).symm); iexists _; isplitr; swap; (· iexact H3); ipureintro
    have e := out0_read A c t (st0_3 t) f3 _ _ _ hf0 hf1 hf2
    exact e

end Cert.Proof.KernelIdeal

end
-- ==== Proof.IObl1.lean ====
module

public import proofs.«01_k».proof.Proof.IData
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg)

variable {F : FTy → Type} [FloatOps F] [Named F]

local notation "𝕄" => MT nD τ sig Unit (Elt F) ℕ (UR sig nD τ) ℕ

variable (A B : Dev nD → Valuation τ sig (Elt F))

theorem before1_0 (c : Dev nD) (t : Fin (cfgA (F := F)).N) (d) : (dat1 B c).before 0 t d = blk1_0 B c t :=
  ((dat1 B c).before_in_eq_fetched 0 rfl (fun _ => rfl) (fun _ _ _ => rfl) (fun _ => rfl) t d).trans rfl
theorem before1_1 (c : Dev nD) (t : Fin (cfgA (F := F)).N) (d) : (dat1 B c).before 1 t d = blk1_1 B c t :=
  ((dat1 B c).before_in_eq_fetched 1 rfl (fun _ => rfl) (fun _ _ _ => rfl) (fun _ => rfl) t d).trans rfl
theorem before1_2 (c : Dev nD) (t : Fin (cfgA (F := F)).N) (d) : (dat1 B c).before 2 t d = blk1_2 B c t :=
  ((dat1 B c).before_in_eq_fetched 2 rfl (fun _ => rfl) (fun _ _ _ => rfl) (fun _ => rfl) t d).trans rfl

/-- The attention's staging buffers at a point. -/
abbrev st1_0 (t : Fin (cfgA (F := F)).N) := spec1_0.stage ((cfgA (F := F)).slots t 0)
abbrev st1_1 (t : Fin (cfgA (F := F)).N) := spec1_1.stage ((cfgA (F := F)).slots t 1)
abbrev st1_2 (t : Fin (cfgA (F := F)).N) := spec1_2.stage ((cfgA (F := F)).slots t 2)
abbrev st1_3 (t : Fin (cfgA (F := F)).N) := spec1_3.stage ((cfgA (F := F)).slots t 3)

theorem obligation1 (c : Dev nD) : BodyObligation (dat1 B c) (defs₀ (F := F)) Variants.none () Set.univ := fun t => by
  rw [bigSep_W1, bigSep_W1]
  rw [show (dat1 B c).Φ t.castSucc = iprop(rest1 c ∗ ((c : Thread nD τ).loc main_c ↦{fullShare} (tab : Buf (Elt F) ((c : Thread nD τ).loc main_c)))) from rfl,
    show (dat1 B c).Φ t.succ = iprop(rest1 c ∗ ((c : Thread nD τ).loc main_c ↦{fullShare} (tab : Buf (Elt F) ((c : Thread nD τ).loc main_c)))) from rfl,
    show (dat1 B c).owesAt () t.succ = (dat1 B c).owesAt () t.castSucc from rfl]
  have E0 := owns_open (F := F) (c : Thread nD τ) (st1_0 t) (hstage1_0 (((cfgA (F := F)).slots t 0).cast nbuf1_0))
  have E1 := owns_open (F := F) (c : Thread nD τ) (st1_1 t) (hstage1_1 (((cfgA (F := F)).slots t 1).cast nbuf1_1))
  have E2 := owns_open (F := F) (c : Thread nD τ) (st1_2 t) (hstage1_2 (((cfgA (F := F)).slots t 2).cast nbuf1_2))
  have E3 := owns_open (F := F) (c : Thread nD τ) (st1_3 t) (hstage1_3 (((cfgA (F := F)).slots t 3).cast nbuf1_3))
  iintro ⟨⟨HΦ, HT⟩, Howes, ⟨%d0, H0⟩, ⟨%d1, H1⟩, ⟨%d2, H2⟩, ⟨%d3, H3⟩⟩
  ihave H0 := (Entails.of_eq (E0 ((dat1 B c).before 0 t d0))) $$ H0
  ihave H1 := (Entails.of_eq (E1 ((dat1 B c).before 1 t d1))) $$ H1
  ihave H2 := (Entails.of_eq (E2 ((dat1 B c).before 2 t d2))) $$ H2
  ihave H3 := (Entails.of_eq (E3 _)) $$ H3
  icases H0 with ⟨%f0, %hf0, H0⟩
  icases H1 with ⟨%f1, %hf1, H1⟩
  icases H2 with ⟨%f2, %hf2, H2⟩
  icases H3 with ⟨%f3, -, H3⟩
  have hf0 := hf0.trans (before1_0 B c t d0)
  have hf1 := hf1.trans (before1_1 B c t d1)
  have hf2 := hf2.trans (before1_2 B c t d2)
  iapply (wp_wand_r frame (wpE defs₀ Variants.none (c : Thread nD τ) none) Set.univ
    (Q := fun _ => Trip c (Memref.whole main_c) (st1_0 t) (st1_1 t) (st1_2 t) (st1_3 t) tab f0 f1 f2 _))
  isplitl [HT H0 H1 H2 H3]
  · iapply (body_wp c (grid1.coords t) (Memref.whole main_c) (Memref.isWhole_whole _) (st1_0 t) (hstage1_0 (((cfgA (F := F)).slots t 0).cast nbuf1_0))
      (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3)) tab f0 f1 f2 tab_lt f3)
    isplitl [HT]; · iexact HT
    isplitl [H0]; · iexact H0
    isplitl [H1]; · iexact H1
    isplitl [H2]; · iexact H2
    iexact H3
  · iintro %_ ⟨HT, H0, H1, H2, H3⟩
    isplitl [HΦ HT]
    · isplitl [HΦ]; · iexact HΦ
      iexact HT
    isplitl [Howes]; · iexact Howes
    isplitl [H0]
    · iapply (Entails.of_eq (E0 (blk1_0 B c t)).symm); iexists _; isplitr; swap; (· iexact H0); ipureintro; exact hf0
    isplitl [H1]
    · iapply (Entails.of_eq (E1 (blk1_1 B c t)).symm); iexists _; isplitr; swap; (· iexact H1); ipureintro; exact hf1
    isplitl [H2]
    · iapply (Entails.of_eq (E2 (blk1_2 B c t)).symm); iexists _; isplitr; swap; (· iexact H2); ipureintro; exact hf2
    iapply (Entails.of_eq (E3 (out1 B c t)).symm); iexists _; isplitr; swap; (· iexact H3); ipureintro
    unfold out1
    rw [← hf0, ← hf1, ← hf2]
    exact View.read_writes_eq_canon _ _ _ (cover _ _ _ _ _ _)

end Cert.Proof.KernelIdeal
-- ==== Proof.IRun.lean ====
module

public import proofs.«01_k».proof.Proof.IObl0
public import proofs.«01_k».proof.Proof.IObl1

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg ucRefs)

variable {F : FTy → Type} [FloatOps F] [Named F]

local notation "𝕄" => MT nD τ sig Unit (Elt F) ℕ (UR sig nD τ) ℕ

/-- No core owes another anything: no level is assigned. -/
abbrev L₀ : GSem nD τ sig → Finset Unit := fun _ => ∅
abbrev lv₀ : GSem nD τ sig → Unit → ℕ := fun _ _ => 0

/-- What rides beside the buffers. -/
abbrev Ow (c : Dev nD) : sProp 𝕄 := iprop(∃ W, owes (c : Thread nD τ) (0 : CellTallies nD τ sig Unit) W)

section Regions

variable (A B A' B' : Dev nD → Valuation τ sig (Elt F))

set_option backward.isDefEq.respectTransparency.types false in
/-- The projection's region, from the buffers at `A` to the buffers at `A'`. -/
def reg0 (hout : ∀ c, A' c main_v12 = (dat0 A c).arrAt 3 cfg0.N) (hne : ∀ c (b : Ref sig .tc), b ≠ main_v12 → A' c b = A c b) :
    RegionSeg (pcfgs (F := F)) adm (pdats A B) () defs₀ Variants.none L₀ lv₀ 0 where
  win := (launch0 (F := F)).win.to₀
  block_pos := (launch0 (F := F)).block_pos
  stage_whole := (launch0 (F := F)).stage_whole
  K := PEmpty
  osem k := k.elim
  ho := Pipeline.OwnSemFacts.none _
  hbody c := (obligation0 A c).loose
  hwaits := Pipeline.hwaits_of_owed_zero _ _ _ _ L₀ lv₀ 0 fun _ _ => rfl
  pre c := iprop(StableHlo.held (c : Thread nD τ) (ucRefs τ sig) (A c) ∗ Ow c)
  post c := iprop(StableHlo.held (c : Thread nD τ) (ucRefs τ sig) (A' c) ∗ Ow c)
  X _ := BI.emp
  Y _ := BI.emp
  Z c := Pipeline.unscopedRest (Ix := Unit) (Name := ℕ) (U := UR sig nD τ) (Lvl := ℕ) spec0 c (fun b => A c b)
  hentry c := by
    rw [Pipeline.ownSems0_none, ← Pipeline.unscopedBufs_held (Ix := Unit) (Name := ℕ) (U := UR sig nD τ) (Lvl := ℕ) c (A c)]
    have hsplit := Pipeline.arrays_of_unscopedBufs (p := 0) (pcfgs (F := F)) adm (pdats A B) (launch0 (F := F)).win (launch0 (F := F)).arr_whole c
      ((pdats A B 0 c).share_full fun _ => rfl) (fun b => A c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats A B 0 c).Φ 0 = rest0 c from rfl]
    iintro ⟨-, -, Hr⟩; iexact Hr
  hout c := by
    rw [Pipeline.ownSems0_none, show (pdats A B 0 c).Φ (Fin.last _) = rest0 c from rfl]
    iintro Hr
    isplitr; · iempintro
    isplitr; · iempintro
    iexact Hr
  hexit c := by
    rw [← Pipeline.unscopedBufs_held (Ix := Unit) (Name := ℕ) (U := UR sig nD τ) (Lvl := ℕ) c (A' c)]
    have hjoin := Pipeline.unscopedBufs_of_arrays (p := 0) (pcfgs (F := F)) adm (Ix := Unit) (Name := ℕ) (U := UR sig nD τ) (Lvl := ℕ) (launch0 (F := F)).win (launch0 (F := F)).arr_whole c
      (pdats A B) ((pdats A B 0 c).share_full fun _ => rfl) (fun b => A c b) (fun b => A' c b) ((pdats A B 0 c).arrAt · cfg0.N)
      (fun w => by
        fin_cases w
        · exact ((dat0 A c).arrAt_in 0 rfl _).trans (hne c main_v10 (by decide)).symm
        · exact ((dat0 A c).arrAt_in 1 rfl _).trans (hne c main_v11 (by decide)).symm
        · exact ((dat0 A c).arrAt_in 2 rfl _).trans (hne c main_v9 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The one table held, as the pipeline holds it. -/
theorem prefHeld_eq (c : Dev nD) : (Pipeline.prefHeld pre1 c (fun _ => fullShare) (adm (F := F) 1).1 : sProp 𝕄)
    = iprop((c : Thread nD τ).loc main_c ↦{fullShare} (tab : Buf (Elt F) ((c : Thread nD τ).loc main_c))) := by
  unfold Pipeline.prefHeld
  rw [show (Finset.univ : Finset (Fin 1)) = {0} from rfl, BI.bigSep_singleton]
  rfl

set_option backward.isDefEq.respectTransparency.types false in
/-- The attention's region, from the buffers at `B` to the buffers at `B'`. -/
def reg1 (htab : ∀ c, B c main_c = (tab : Buf (Elt F) ((c : Thread nD τ).loc main_c)))
    (hout : ∀ c, B' c main_v14 = (dat1 B c).arrAt 3 (cfgA (F := F)).N) (hne : ∀ c (b : Ref sig .tc), b ≠ main_v14 → B' c b = B c b) :
    RegionSeg (pcfgs (F := F)) adm (pdats A B) () defs₀ Variants.none L₀ lv₀ 1 where
  win := winFacts₀1
  block_pos := block_pos1
  stage_whole := stage_whole1
  K := PEmpty
  osem k := k.elim
  ho := Pipeline.OwnSemFacts.none _
  hbody c := (obligation1 B c).loose
  hwaits := Pipeline.hwaits_of_owed_zero _ _ _ _ L₀ lv₀ 1 fun _ _ => rfl
  pre c := iprop(StableHlo.held (c : Thread nD τ) (ucRefs τ sig) (B c) ∗ Ow c)
  post c := iprop(StableHlo.held (c : Thread nD τ) (ucRefs τ sig) (B' c) ∗ Ow c)
  X _ := BI.emp
  Y c := iprop((c : Thread nD τ).loc main_c ↦{fullShare} (tab : Buf (Elt F) ((c : Thread nD τ).loc main_c)))
  Z c := Pipeline.unscopedRestP (Ix := Unit) (Name := ℕ) (U := UR sig nD τ) (Lvl := ℕ) pre1 spec1 c (fun b => B c b)
  hentry c := by
    rw [Pipeline.ownSems0_none, ← Pipeline.unscopedBufs_held (Ix := Unit) (Name := ℕ) (U := UR sig nD τ) (Lvl := ℕ) c (B c)]
    have hsplit := Pipeline.arrays_of_unscopedBufs_shared (p := 1) (pcfgs (F := F)) adm (pdats A B) winFacts₀1 sharedIn1 arr_whole1 c
      (fun _ _ => rfl) (fun b => B c b) fun _ => rfl
    have hrest := Pipeline.unscopedRest_split (Ix := Unit) (Name := ℕ) (U := UR sig nD τ) (Lvl := ℕ) preFacts1 c (fun b => B c b)
    have hV : (fun k => (fun b : Ref sig .tc => B c b) (pre1.ref k)) = (adm (F := F) 1).1 := by
      funext k; obtain rfl : k = 0 := Subsingleton.elim _ _; exact htab c
    rw [hV] at hrest
    iintro ⟨⟨Hub, HO⟩, -, -⟩
    ihave H := hsplit $$ Hub
    icases H with ⟨Ha, Hrest⟩
    ihave H := (Entails.of_eq hrest) $$ Hrest
    icases H with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats A B 1 c).Φ 0 = iprop(rest1 c ∗ ((c : Thread nD τ).loc main_c ↦{fullShare} (tab : Buf (Elt F) ((c : Thread nD τ).loc main_c)))) from rfl]
    iintro ⟨-, Ht, Hr⟩
    ihave Ht := (Entails.of_eq (prefHeld_eq c)) $$ Ht
    isplitl [Hr]; · iexact Hr
    iexact Ht
  hout c := by
    rw [Pipeline.ownSems0_none,
      show (pdats A B 1 c).Φ (Fin.last _) = iprop(rest1 c ∗ ((c : Thread nD τ).loc main_c ↦{fullShare} (tab : Buf (Elt F) ((c : Thread nD τ).loc main_c)))) from rfl]
    iintro ⟨Hr, Ht⟩
    isplitl [Ht]; · iexact Ht
    isplitr; · iempintro
    iexact Hr
  hexit c := by
    rw [← Pipeline.unscopedBufs_held (Ix := Unit) (Name := ℕ) (U := UR sig nD τ) (Lvl := ℕ) c (B' c)]
    have hjoin := Pipeline.unscopedBufs_of_arrays_shared (p := 1) (pcfgs (F := F)) adm (Ix := Unit) (Name := ℕ) (U := UR sig nD τ) (Lvl := ℕ) winFacts₀1 sharedIn1 arr_whole1 c
      (pdats A B) (fun _ _ => rfl) (fun b => B c b) (fun b => B' c b) ((pdats A B 1 c).arrAt · (cfgA (F := F)).N)
      (fun w => by
        fin_cases w
        · exact ((dat1 B c).arrAt_in 0 rfl _).trans (hne c main_v13 (by decide)).symm
        · exact ((dat1 B c).arrAt_in 1 rfl _).trans (hne c main_v13 (by decide)).symm
        · exact ((dat1 B c).arrAt_in 2 rfl _).trans (hne c main_v13 (by decide)).symm
        · exact (hout c).symm)
      (fun b hb => hne c b fun h => hb (h ▸ Finset.mem_image.mpr ⟨3, Finset.mem_univ _, rfl⟩))
    have hrest := Pipeline.unscopedRest_split (Ix := Unit) (Name := ℕ) (U := UR sig nD τ) (Lvl := ℕ) preFacts1 c (fun b => B c b)
    have hV : (fun k => (fun b : Ref sig .tc => B c b) (pre1.ref k)) = (adm (F := F) 1).1 := by
      funext k; obtain rfl : k = 0 := Subsingleton.elim _ _; exact htab c
    rw [hV] at hrest
    iintro ⟨Ha, HO, Ht, Hrest⟩
    imodintro
    isplitl [Ha Ht Hrest]
    · iapply hjoin
      isplitl [Ha]; · iexact Ha
      iapply (Entails.of_eq hrest.symm)
      isplitl [Ht]
      · iapply (Entails.of_eq (prefHeld_eq c).symm); iexact Ht
      iexact Hrest
    unfold Pipeline.Dat.owesAt Pipeline.owesWithin
    icases HO with ⟨%W, -, HO⟩; iexists W; iexact HO

end Regions

end Cert.Proof.KernelIdeal

end
-- ==== Proof.IMain.lean ====
module

public import proofs.«01_k».proof.Proof.IRun

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg ucRefs)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The projection's result. -/
def res12 (c : Dev nD) : Buf (Elt F) ((c : Thread nD τ).loc main_v12) := (dat0 (V1 m) c).arrAt 3 cfg0.N

/-- What the regions leave, the projection's result only. -/
def outsA : Outs (F := F) := fun _ => Function.update (fun (r : Ref sig .tc) (c : Dev nD) => m ((c : Thread nD τ).loc r)) main_v12 (res12 m)

/-- The attention's result. -/
def res14 (c : Dev nD) : Buf (Elt F) ((c : Thread nD τ).loc main_v14) := (dat1 (V3 m (outsA m)) c).arrAt 3 (cfgA (F := F)).N

/-- What the regions leave: the projection's result and the attention's. -/
def outs : Outs (F := F) := fun j => Function.update (outsA m j) main_v14 (res14 m)

theorem outsA_v12 (j : ℕ) (c : Dev nD) : outsA m j main_v12 c = res12 m c := by
  unfold outsA
  rw [Function.update_self]

theorem outs_v12 (j : ℕ) (c : Dev nD) : outs m j main_v12 c = res12 m c := by
  unfold outs
  rw [Function.update_of_ne (by decide)]
  exact outsA_v12 m j c

theorem outs_v14 (j : ℕ) (c : Dev nD) : outs m j main_v14 c = res14 m c := by
  unfold outs
  rw [Function.update_self]

theorem V2_outs (c : Dev nD) : V2 m (outs m) c = V2 m (outsA m) c := by
  unfold V2
  rw [outs_v12, outsA_v12]

theorem V3_outs : V3 m (outs m) = V3 m (outsA m) := by
  funext c
  unfold V3
  rw [V2_outs]

theorem V1_tab (c : Dev nD) : V1 m c main_c = (tab : Buf (Elt F) ((c : Thread nD τ).loc main_c)) := by
  show StableHlo.after (StableHlo.nullary main_c (fun i => lit0 (S12x62x3.rowMajor i)) :: (hostOps0 (F := F)).tail) (V0 m c) main_c = _
  rw [StableHlo.after_cons, StableHlo.after_of_writes_sub (W := hostOps0_W.tail) (r := main_c) _ _ (StableHlo.forall_writes_sub_of_map rfl) (by decide)]
  exact StableHlo.nullary_result ..

theorem V3_tab (c : Dev nD) : V3 m (outsA m) c main_c = (tab : Buf (Elt F) ((c : Thread nD τ).loc main_c)) :=
  (V3_of m _ c main_c (by decide)).trans <| (V2_of m _ c main_c (by decide)).trans (V1_tab m c)

/-- The two regions. -/
abbrev R0 : RegionSeg (pcfgs (F := F)) adm (pdats (V1 m) (V3 m (outsA m))) () defs₀ Variants.none L₀ lv₀ 0 :=
  reg0 (V1 m) (V3 m (outsA m)) (V2 m (outs m))
    (fun c => by unfold V2; rw [Function.update_self]; exact outs_v12 m 2 c) (fun c b hb => V2_of m _ c b (fun h => hb (List.mem_singleton.mp h)))

abbrev R1 : RegionSeg (pcfgs (F := F)) adm (pdats (V1 m) (V3 m (outsA m))) () defs₀ Variants.none L₀ lv₀ 1 :=
  reg1 (V1 m) (V3 m (outsA m)) (V4 m (outs m)) (V3_tab m)
    (fun c => by unfold V4; rw [Function.update_self]; exact outs_v14 m 4 c)
    (fun c b hb => (V4_of m _ c b (fun h => hb (List.mem_singleton.mp h))).trans (by rw [V3_outs]))

/-- What a final memory says: the result as computed, the arguments as launched. -/
def Post (c : Dev nD) (mem : (ℓ : Loc nD τ sig) → Buf (Elt F) ℓ) : Prop :=
  mem ((c : Thread nD τ).loc main_v14) = res14 m c
    ∧ mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_arg4) = m ((c : Thread nD τ).loc main_arg4) ∧ mem ((c : Thread nD τ).loc main_arg5) = m ((c : Thread nD τ).loc main_arg5)
    ∧ mem ((c : Thread nD τ).loc main_arg6) = m ((c : Thread nD τ).loc main_arg6) ∧ mem ((c : Thread nD τ).loc main_arg7) = m ((c : Thread nD τ).loc main_arg7)
    ∧ mem ((c : Thread nD τ).loc main_arg8) = m ((c : Thread nD τ).loc main_arg8) ∧ mem ((c : Thread nD τ).loc main_arg9) = m ((c : Thread nD τ).loc main_arg9)
    ∧ mem ((c : Thread nD τ).loc main_arg10) = m ((c : Thread nD τ).loc main_arg10) ∧ mem ((c : Thread nD τ).loc main_arg11) = m ((c : Thread nD τ).loc main_arg11)

set_option backward.isDefEq.respectTransparency.types false in
/-- Every run ends with the result as computed, the arguments as launched and every counter at zero. -/
theorem run_main : θ_run defs (onTc (τ := τ) (main (F := F))) ⟨m, fun _ => 0, ρ⟩ (fun r => (∀ c : Dev nD, Post m c r.2.mem) ∧ r.2.sem = fun _ => 0) := by
  refine Pipeline.θ_run_regions_kit_dev_sems (pcfgs (F := F)) adm (pdats (V1 m) (V3 m (outsA m))) () (cellOf_inj adm) emb₁ defs₀ Variants.none L₀ lv₀ m ρ main
    (segs m (outs m) Variants.none L₀ lv₀ (fun _ => Ow) () adm (pdats (V1 m) (V3 m (outsA m))) (R0 m) (R1 m))
    (fun c Q => by
      rewrite [main_chain c, Seg.run_eq_chain,
        show (segs m (outs m) Variants.none L₀ lv₀ (fun _ => Ow) () adm (pdats (V1 m) (V3 m (outsA m))) (R0 m) (R1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells (Pipeline.pin (pcfgs (F := F)) adm) (cellOf_inj adm)) (Pipeline.launchToks (Pipeline.pin (pcfgs (F := F)) adm) (cellOf_inj adm)))
    (by
      iintro Hu
      imodintro
      isplitl [Hu]; · iapply (Entails.of_eq (ownU_emb₁ _)); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ Ow c))
    (Tₙ := fun c => StableHlo.held (c : Thread nD τ) (ucRefs τ sig) (V4 m (outs m) c))
    (hch := fun c => ⟨.rfl, .rfl, .rfl, Entails.of_eq (by
      show iprop(StableHlo.held (c : Thread nD τ) (ucRefs τ sig) (V3 m (outs m) c) ∗ Ow c) = iprop(StableHlo.held (c : Thread nD τ) (ucRefs τ sig) (V3 m (outsA m) c) ∗ Ow c)
      rw [V3_outs]), .rfl⟩)
    (hinit := ?_) (QY := fun c s => Post m c s.mem)
    (hfin := fun c s' => ?_) (hQ := fun _ h hz => ⟨h, funext fun g => hz g (.inr (regions_no_unscoped g.2))⟩)
  · refine Pipeline.initEach L₀ lv₀ fun c => ?_
    rw [show unscopedBufs c (fun b => m ((c : Thread nD τ).loc b)) = StableHlo.held (c : Thread nD τ) (ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c : Thread nD τ).1, b)) (V4 m (outs m) c) s') $$ [Hh HSI]
    · isplitl [Hh] <;> iassumption
    icases Hr with ⟨%h, HSI⟩
    imodintro
    isplitr
    · ipureintro
      have g := fun (r : Ref sig .tc) (hr : ¬ r.isScoped) => h (Proc.devRef .tc r) (Finset.mem_filter.mpr ⟨StableHlo.devRef_mem_tcRefs r, hr⟩)
      refine ⟨(g main_v14 (by decide)).trans (by unfold V4; rw [Function.update_self]; exact outs_v14 m 4 c),
        (g main_arg0 (by decide)).trans (V4_main_arg0 m _ c), (g main_arg1 (by decide)).trans (V4_main_arg1 m _ c),
        (g main_arg2 (by decide)).trans (V4_main_arg2 m _ c), (g main_arg3 (by decide)).trans (V4_main_arg3 m _ c),
        (g main_arg4 (by decide)).trans (V4_main_arg4 m _ c), (g main_arg5 (by decide)).trans (V4_main_arg5 m _ c),
        (g main_arg6 (by decide)).trans (V4_main_arg6 m _ c), (g main_arg7 (by decide)).trans (V4_main_arg7 m _ c),
        (g main_arg8 (by decide)).trans (V4_main_arg8 m _ c), (g main_arg9 (by decide)).trans (V4_main_arg9 m _ c),
        (g main_arg10 (by decide)).trans (V4_main_arg10 m _ c), (g main_arg11 (by decide)).trans (V4_main_arg11 m _ c)⟩
    · iexact HSI

end Cert.Proof.KernelIdeal

end
-- ==== Proof.Frames.lean ====
module

public import proofs.«01_k».proof.Defs
public import proofs.«01_k».proof.Proof.KMain
public import proofs.«01_k».proof.Proof.IMain
public import proofs.«01_k».proof.Proof.Gen.ReferenceIdeal.Run
public import Idealize.ShloMosaic.Lib.Quiescent

/-! The runs of the three programs, read as the claims state them. -/

@[expose] public section

noncomputable section

namespace Cert.Proof

open Idealize.ShloMosaic Idealize.ShloMosaic.TcCoe Idealize.SL.Sem

theorem frame_kernel : Cert.quiescent_Kernel := fun m g _ =>
  (θ_run _ _ _).mono (fun _ h => ⟨fun c => (h.1 c).2, h.2⟩) (Cert.Proof.Kernel.run_main m g)

theorem frame_kernelIdeal : Cert.quiescent_KernelIdeal := fun m g _ =>
  (θ_run _ _ _).mono (fun _ h => ⟨fun c => (h.1 c).2, h.2⟩) (Cert.Proof.KernelIdeal.run_main m g)

theorem frame_referenceIdeal : Cert.quiescent_ReferenceIdeal := fun m g _ =>
  (θ_run _ _ _).mono (fun r h => ⟨fun c => (h c).2, sem_eq_zero_of_no_sems (by decide) r.2⟩) (Cert.ReferenceIdeal.Value.run m g)

theorem preserves : Cert.preserves_Kernel_KernelIdeal :=
  IdealRules.named_const.statement Cert.KernelIdeal.κ "neg" .f32 0xF149F2CA#32 ⊥ rfl

end Cert.Proof

end
-- ==== Proof.VSoft.lean ====
module

public import Idealize.ShloMosaic.Lib.Pointwise
public import Mathlib.Analysis.SpecialFunctions.Exp

/-! Softmax over the extended reals: the shifted and normalised weights of a row of real scores, against the plain exponentials and one reciprocal. -/

@[expose] public section

noncomputable section

namespace Cert.Proof.Val

open Idealize.ShloMosaic

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a sum. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The greatest of finitely many reals, folded from below, is a real. -/
theorem fold_max_real {ι : Type} (s : Finset ι) (hs : s.Nonempty) (f : ι → ℝ) : ∃ m : ℝ, s.fold max (⊥ : EReal) (fun i => (f i : EReal)) = (m : EReal) := by
  classical
  induction hs using Finset.Nonempty.cons_induction with
  | singleton a => exact ⟨f a, by simp⟩
  | cons a s ha hs ih =>
    obtain ⟨m, hm⟩ := ih
    exact ⟨max (f a) m, by rw [Finset.fold_cons, hm]; exact (EReal.coe_strictMono.monotone.map_max).symm⟩

/-- The weight of one column. -/
theorem weight {n : ℕ} (s : Fin n → ℝ) (m : ℝ) (j : Fin n) :
    Ideal.div (Ideal.exp ((s j : EReal) - (m : EReal))) (∑ k, Ideal.exp ((s k : EReal) - (m : EReal)))
      = Ideal.exp (s j : EReal) * ((1 / ∑ k, Real.exp (s k) : ℝ) : EReal) := by
  have e : ∀ k, Ideal.exp ((s k : EReal) - (m : EReal)) = ((Real.exp (s k - m) : ℝ) : EReal) := fun k => by
    rw [← EReal.coe_sub]; rfl
  simp only [e]
  rw [← coe_sum]
  have hpos : 0 < ∑ k, Real.exp (s k - m) := Finset.sum_pos (fun k _ => Real.exp_pos _) ⟨j, Finset.mem_univ _⟩
  have hpos' : 0 < ∑ k, Real.exp (s k) := Finset.sum_pos (fun k _ => Real.exp_pos _) ⟨j, Finset.mem_univ _⟩
  have hne : ((∑ k, Real.exp (s k - m) : ℝ) : EReal) ≠ 0 := by exact_mod_cast hpos.ne'
  unfold Ideal.div
  rw [if_neg hne, ← EReal.coe_inv, ← EReal.coe_mul]
  show _ = ((Real.exp (s j) : ℝ) : EReal) * _
  rw [← EReal.coe_mul]
  congr 1
  have : ∑ k, Real.exp (s k - m) = (∑ k, Real.exp (s k)) * Real.exp (-m) := by
    rw [Finset.sum_mul]; exact Finset.sum_congr rfl fun k _ => by rw [← Real.exp_add]; rfl
  rw [this, sub_eq_add_neg, Real.exp_add]
  have := (Real.exp_pos (-m)).ne'
  field_simp

/-- The reciprocal of a row's sum of exponentials. -/
theorem recip {n : ℕ} (s : Fin n → ℝ) (hn : 0 < n) :
    Ideal.div 1 (∑ k, Ideal.exp (s k : EReal)) = ((1 / ∑ k, Real.exp (s k) : ℝ) : EReal) := by
  have hpos' : 0 < ∑ k, Real.exp (s k) := Finset.sum_pos (fun k _ => Real.exp_pos _) ⟨⟨0, hn⟩, Finset.mem_univ _⟩
  have e : (∑ k, Ideal.exp (s k : EReal)) = ((∑ k, Real.exp (s k) : ℝ) : EReal) := by rw [coe_sum]; rfl
  rw [e]
  unfold Ideal.div
  rw [if_neg (by exact_mod_cast hpos'.ne'), ← EReal.coe_inv, one_mul, one_div]

/-- A row's result: the plain exponentials against the values, times the reciprocal of their sum. -/
def row {n : ℕ} (s : Fin n → EReal) (v : Fin n → EReal) : EReal :=
  (∑ j, Ideal.exp (s j) * v j) * Ideal.div 1 (∑ j, Ideal.exp (s j))

/-- The shifted softmax of a row of real scores, against the values. -/
theorem soft_eq_row {n : ℕ} (hn : 0 < n) (s : Fin n → EReal) (hs : ∀ j, ∃ r : ℝ, s j = (r : EReal)) (v : Fin n → EReal) :
    (∑ j, Ideal.div (Ideal.exp (s j - max ⊥ (Finset.univ.fold max ⊥ s))) (∑ k, Ideal.exp (s k - max ⊥ (Finset.univ.fold max ⊥ s))) * v j) = row s v := by
  choose r hr using hs
  obtain rfl : s = fun j => (r j : EReal) := funext hr
  obtain ⟨m, hm⟩ := fold_max_real Finset.univ ⟨⟨0, hn⟩, Finset.mem_univ _⟩ r
  rw [hm, max_eq_right bot_le]
  unfold row
  rw [recip r hn, sum_mul_coe _ _ _ (by positivity)]
  exact Finset.sum_congr rfl fun j _ => by rw [weight r m j]; ac_rfl

end Cert.Proof.Val

end
-- ==== Proof.VRefA.lean ====
module

public import proofs.«01_k».proof.Proof.Gen.ReferenceIdeal.Run
public import proofs.«01_k».proof.Proof.VSoft
public import Idealize.ShloMosaic.Lib.Tactic.CleanTypes

/-! The reference's queries, keys and values at an index, and the blocks it gathers. -/

@[expose] public section

set_option maxRecDepth 16384

noncomputable section

namespace Cert.Proof.Val

open Idealize.ShloMosaic Idealize.ShloMosaic.TcCoe Idealize.ShloMosaic.StableHlo

/-- One entry of a projection: a row of `x` against a row of `w`, plus the bias. -/
def lin (x : (⟨3, ![4, 4096, 768]⟩ : Shape).Idx → EReal) (w : (⟨2, ![768, 768]⟩ : Shape).Idx → EReal) (bias : (⟨1, ![768]⟩ : Shape).Idx → EReal)
    (b : Fin 4) (p : Fin 4096) (o : Fin 768) : EReal :=
  (∑ k : Fin 768, x (ix3 b p k) * w (ix2 o k)) + bias (ix1 o)

/-- The lane of head `h` at `d`. -/
def lane (h : Fin 12) (d : Fin 64) : Fin 768 := ⟨h.val * 64 + d.val, by omega⟩

/-- The row of block `i` at `r`. -/
def pos (i : Fin 64) (r : Fin 64) : Fin 4096 := ⟨i.val * 64 + r.val, by omega⟩

namespace Ref

open Cert.ReferenceIdeal Cert.ReferenceIdeal.Gen Cert.ReferenceIdeal.Value

variable (V0 : Valuation τ sig (Elt Ideal))

/-- The arguments as arrays. -/
abbrev X : (⟨3, ![4, 4096, 768]⟩ : Shape).Idx → EReal := V0 (Proc.devRef .tc main_arg0)
abbrev Wq : (⟨2, ![768, 768]⟩ : Shape).Idx → EReal := V0 (Proc.devRef .tc main_arg6)
abbrev bq : (⟨1, ![768]⟩ : Shape).Idx → EReal := V0 (Proc.devRef .tc main_arg7)
abbrev Wk : (⟨2, ![768, 768]⟩ : Shape).Idx → EReal := V0 (Proc.devRef .tc main_arg8)
abbrev bk : (⟨1, ![768]⟩ : Shape).Idx → EReal := V0 (Proc.devRef .tc main_arg9)
abbrev Wv : (⟨2, ![768, 768]⟩ : Shape).Idx → EReal := V0 (Proc.devRef .tc main_arg10)
abbrev bv : (⟨1, ![768]⟩ : Shape).Idx → EReal := V0 (Proc.devRef .tc main_arg11)

/-- Queries, keys and values per head. -/
def Q (b : Fin 4) (h : Fin 12) (p : Fin 4096) (d : Fin 64) : EReal := lin (X V0) (Wq V0) (bq V0) b p (lane h d)
def K (b : Fin 4) (h : Fin 12) (p : Fin 4096) (d : Fin 64) : EReal := lin (X V0) (Wk V0) (bk V0) b p (lane h d)
def W (b : Fin 4) (h : Fin 12) (p : Fin 4096) (d : Fin 64) : EReal := lin (X V0) (Wv V0) (bv V0) b p (lane h d)

theorem v13_apply (b : Fin 4) (h : Fin 12) (p : Fin 4096) (d : Fin 64) : res_main_v13 V0 (ix4 b h p d) = K V0 b h p d := by
  unfold res_main_v13; clean_types
  pointwise [K, lin, lane]

theorem v20_apply (b : Fin 4) (h : Fin 12) (p : Fin 4096) (d : Fin 64) : res_main_v20 V0 (ix4 b h p d) = W V0 b h p d := by
  unfold res_main_v20; clean_types
  pointwise [W, lin, lane]

theorem v48_apply (b : Fin 4) (h : Fin 12) (i r d : Fin 64) : res_main_v48 V0 (ix5 b h i r d) = Q V0 b h (pos i r) d := by
  unfold res_main_v48; clean_types
  pointwise [Q, lin, lane, pos]

theorem v49_apply (b : Fin 4) (h : Fin 12) (i r d : Fin 64) : res_main_v49 V0 (ix5 b h i r d) = K V0 b h (pos i r) d := by
  rw [← v13_apply]
  unfold res_main_v49; clean_types
  pointwise [pos]

theorem v50_apply (b : Fin 4) (h : Fin 12) (i r d : Fin 64) : res_main_v50 V0 (ix5 b h i r d) = W V0 b h (pos i r) d := by
  rw [← v20_apply]
  unfold res_main_v50; clean_types
  pointwise [pos]

end Ref

end Cert.Proof.Val

end
-- ==== Proof.VKerA.lean ====
module

public import proofs.«01_k».proof.Proof.ITrip
public import proofs.«01_k».proof.Proof.VRefA
public import proofs.«01_k».proof.Proof.VSoft
public import Idealize.ShloMosaic.Lib.IdealHost

/-! What the attention kernel's payloads are, row by row. -/

@[expose] public section

set_option maxRecDepth 16384

noncomputable section

namespace Cert.Proof.Val.Ker

open Idealize.ShloMosaic Idealize.ShloMosaic.TcCoe
open Cert.KernelIdeal Cert.KernelIdeal.Gen Cert.Proof.KernelIdeal

theorem one : Ideal.ofBits .f32 0x3F800000#32 = 1 := Idealize.ShloMosaic.Ideal.ofBits_one_f32

/-- A head's lane inside a block of two heads. -/
def lane2 (e : Fin 2) (d : Fin 64) : Fin 128 := ⟨e.val * 64 + d.val, by omega⟩

theorem rd64 (x : Vec Ideal S1x4096x128 .bf16) (o : Fin 3 → ℕ) (inb : ∀ a, o a + S1x64x64.size a ≤ S1x4096x128.size a) (r0 c0 : ℕ)
    (ho : o = ![0, r0, c0]) (r d : Fin 64) (p : Fin 4096) (l : Fin 128) (hp : p.val = r0 + r.val) (hl : l.val = c0 + d.val) :
    rd x (Rect.unit (s := S1x4096x128) o S1x64x64.size inb) (ix3 0 r d) = x (ix3 0 p l) := by
  subst ho
  refine congrArg x (funext fun a => Fin.ext ?_)
  fin_cases a
  · rfl
  · show r0 + 1 * r.val = p.val; omega
  · show c0 + 1 * d.val = l.val; omega

theorem rd192 (x : Vec Ideal S1x4096x128 .bf16) (o : Fin 3 → ℕ) (inb : ∀ a, o a + S1x192x64.size a ≤ S1x4096x128.size a) (r0 c0 : ℕ)
    (ho : o = ![0, r0, c0]) (r : Fin 192) (d : Fin 64) (p : Fin 4096) (l : Fin 128) (hp : p.val = r0 + r.val) (hl : l.val = c0 + d.val) :
    rd x (Rect.unit (s := S1x4096x128) o S1x192x64.size inb) (ix3 0 r d) = x (ix3 0 p l) := by
  subst ho
  refine congrArg x (funext fun a => Fin.ext ?_)
  fin_cases a
  · rfl
  · show r0 + 1 * r.val = p.val; omega
  · show c0 + 1 * d.val = l.val; omega

theorem rd4096 (x : Vec Ideal S1x4096x128 .bf16) (o : Fin 3 → ℕ) (inb : ∀ a, o a + S1x4096x64.size a ≤ S1x4096x128.size a) (c0 : ℕ)
    (ho : o = ![0, 0, c0]) (r : Fin 4096) (d : Fin 64) (l : Fin 128) (hl : l.val = c0 + d.val) :
    rd x (Rect.unit (s := S1x4096x128) o S1x4096x64.size inb) (ix3 0 r d) = x (ix3 0 r l) := by
  subst ho
  refine congrArg x (funext fun a => Fin.ext ?_)
  fin_cases a
  · rfl
  · show 0 + 1 * r.val = r.val; omega
  · show c0 + 1 * d.val = l.val; omega

section Full

variable (a : Vec Ideal S1x64x64 .bf16) (b v : Vec Ideal S1x4096x64 .bf16)

theorem pay14_apply (r d : Fin 64) : k1_pay14 a b v (ix2 r d)
    = row (fun p : Fin 4096 => ∑ x : Fin 64, a (ix3 0 r x) * b (ix3 0 p x)) (fun p => v (ix3 0 p d)) := by
  unfold k1_pay14
  pointwise [one]
  rfl

theorem pay19_apply (r d : Fin 64) : k1_pay19 a b v (ix2 r d)
    = row (fun p : Fin 4096 => ∑ x : Fin 64, a (ix3 0 r x) * b (ix3 0 p x)) (fun p => v (ix3 0 p d)) := by
  unfold k1_pay19
  pointwise [one]
  rfl

theorem pay18_fst (f : FVec Ideal S64x64 .f32) (r d : Fin 64) : k1_pay18 f (k1_pay16 a b v) (k1_pay17 a b) (ix3 0 r ⟨d.val, by omega⟩) = f (ix2 r d) := by
  unfold k1_pay18
  pointwise

theorem pay18_snd (f : FVec Ideal S64x64 .f32) (r d : Fin 64) : k1_pay18 f (k1_pay16 a b v) (k1_pay17 a b) (ix3 0 r ⟨64 + d.val, by omega⟩)
    = row (fun p : Fin 4096 => ∑ x : Fin 64, a (ix3 0 r x) * b (ix3 0 p x)) (fun p => v (ix3 0 p d)) := by
  unfold k1_pay18 k1_pay16 k1_pay17 k1_pay15
  pointwise [one]
  rfl

theorem pay1_fst (f : FVec Ideal S64x64 .f32) (r d : Fin 64) : k1_pay1 f (k1_pay21 a b) (k1_pay22 a b) v (ix3 0 r ⟨d.val, by omega⟩) = f (ix2 r d) := by
  unfold k1_pay1
  pointwise

theorem pay1_snd (f : FVec Ideal S64x64 .f32) (r d : Fin 64) : k1_pay1 f (k1_pay21 a b) (k1_pay22 a b) v (ix3 0 r ⟨64 + d.val, by omega⟩)
    = row (fun p : Fin 4096 => ∑ x : Fin 64, a (ix3 0 r x) * b (ix3 0 p x)) (fun p => v (ix3 0 p d)) := by
  unfold k1_pay1 k1_pay21 k1_pay22 k1_pay20
  pointwise [one]
  rfl

end Full

section Sparse

variable (M : IVec S64x512 1) (K8 : FVec Ideal S512x64 .bf16) (v0 v2 v3 v4 v5 qb : Vec Ideal S1x64x64 .bf16) (v1 : Vec Ideal S1x192x64 .bf16)

theorem neg : (Named.named κ "neg" 0xF149F2CA#32 : Ideal .f32) = ⊥ := IdealRules.named_const.ideal_named_scalar _ _ _ _ rfl

/-- Eight blocks of loaded rows, the second to fourth in one piece, as a function of the column. -/
def chain (v0 v2 v3 v4 v5 : Vec Ideal S1x64x64 .bf16) (v1 : Vec Ideal S1x192x64 .bf16) (c : Fin 512) (d : Fin 64) : EReal :=
  if h : c.val < 64 then v0 (ix3 0 ⟨c.val, h⟩ d)
  else if h : c.val - 64 < 192 then v1 (ix3 0 ⟨c.val - 64, h⟩ d)
  else if h : c.val - 64 - 192 < 64 then v2 (ix3 0 ⟨c.val - 64 - 192, h⟩ d)
  else if h : c.val - 64 - 192 - 64 < 64 then v3 (ix3 0 ⟨c.val - 64 - 192 - 64, h⟩ d)
  else if h : c.val - 64 - 192 - 64 - 64 < 64 then v4 (ix3 0 ⟨c.val - 64 - 192 - 64 - 64, h⟩ d)
  else v5 (ix3 0 ⟨c.val - 64 - 192 - 64 - 64 - 64, by omega⟩ d)

theorem pay4_apply (c : Fin 512) (d : Fin 64) : k1_pay4 (k1_pay3 v0) v1 v2 v3 v4 v5 (ix2 c d) = chain v0 v2 v3 v4 v5 v1 c d := by
  unfold k1_pay4 k1_pay3 chain
  pointwise

theorem pay10_apply (c : Fin 512) (d : Fin 64) : k1_pay10 v0 v1 v2 v3 v4 v5 (ix2 c d) = chain v0 v2 v3 v4 v5 v1 c d := by
  unfold k1_pay10 chain
  pointwise

theorem pay9_apply (r d : Fin 64) : k1_pay9 M K8 (k1_pay5 v0) (k1_pay6 v1) (k1_pay7 v2) (k1_pay8 v3) v4 v5 qb (ix2 r d)
    = row (fun c : Fin 512 => Scalar.select (M (ix2 r c)) ⊥ (∑ x : Fin 64, qb (ix3 0 r x) * K8 (ix2 c x))) (fun c => chain v0 v2 v3 v4 v5 v1 c d) := by
  unfold k1_pay9 k1_pay5 k1_pay6 k1_pay7 k1_pay8 chain
  pointwise [one, neg]
  rfl

theorem pay13_fst (f : FVec Ideal S64x64 .f32) (r d : Fin 64) :
    k1_pay13 M f K8 (k1_pay11 v0) (k1_pay12 v1) v2 v3 v4 v5 qb (ix3 0 r ⟨d.val, by omega⟩) = f (ix2 r d) := by
  unfold k1_pay13
  pointwise

theorem pay13_snd (f : FVec Ideal S64x64 .f32) (r d : Fin 64) :
    k1_pay13 M f K8 (k1_pay11 v0) (k1_pay12 v1) v2 v3 v4 v5 qb (ix3 0 r ⟨64 + d.val, by omega⟩)
    = row (fun c : Fin 512 => Scalar.select (M (ix2 r c)) ⊥ (∑ x : Fin 64, qb (ix3 0 r x) * K8 (ix2 c x))) (fun c => chain v0 v2 v3 v4 v5 v1 c d) := by
  unfold k1_pay13 k1_pay11 k1_pay12 chain
  pointwise [one, neg]
  rfl

/-- The columns a trip leaves out: the first block again in the first trip, the last block again in the last trip. -/
def hid (t c : ℕ) : Prop := (t = 0 ∧ 64 ≤ c ∧ c < 128) ∨ (t = 61 ∧ 192 ≤ c ∧ c < 256)

instance (t c : ℕ) : Decidable (hid t c) := inferInstanceAs (Decidable (_ ∨ _))

theorem trip_one : ∀ t : Fin 62, (Scalar.cmpi .eq (Scf.iv 1#32 1#32 t.val) 1#32 : BitVec 1) = if t.val = 0 then 1#1 else 0#1 := by decide +kernel
theorem trip_last : ∀ t : Fin 62, (Scalar.cmpi .eq (Scf.iv 1#32 1#32 t.val) 62#32 : BitVec 1) = if t.val = 61 then 1#1 else 0#1 := by decide +kernel
theorem col_ge64 : ∀ c : Fin 512, (IntOp.cmpi .sge (BitVec.ofNat 32 c.val) 64#32 : BitVec 1) = if 64 ≤ c.val then 1#1 else 0#1 := by decide +kernel
theorem col_lt128 : ∀ c : Fin 512, (IntOp.cmpi .slt (BitVec.ofNat 32 c.val) 128#32 : BitVec 1) = if c.val < 128 then 1#1 else 0#1 := by decide +kernel
theorem col_ge192 : ∀ c : Fin 512, (IntOp.cmpi .sge (BitVec.ofNat 32 c.val) 192#32 : BitVec 1) = if 192 ≤ c.val then 1#1 else 0#1 := by decide +kernel
theorem col_lt256 : ∀ c : Fin 512, (IntOp.cmpi .slt (BitVec.ofNat 32 c.val) 256#32 : BitVec 1) = if c.val < 256 then 1#1 else 0#1 := by decide +kernel

theorem trip_lt (t : Fin k1_t1_loop.trips) : t.val < 62 := trips_eq ▸ t.isLt

theorem pay2_apply (t : Fin k1_t1_loop.trips) (r : Fin 64) (c : Fin 512) :
    k1_pay2 (iota .tc S64x512 32 [1] iota_S64x512_d1_w32) 1#32 1#32 t (ix2 r c) = if hid t.val c.val then 1#1 else 0#1 := by
  unfold k1_pay2
  pointwise
  rw [trip_one ⟨t.val, trip_lt t⟩, trip_last ⟨t.val, trip_lt t⟩, col_ge64, col_lt128, col_ge192, col_lt256]
  dsimp only
  by_cases hh : hid t.val c.val
  · rw [if_pos hh]; unfold hid at hh; split_ifs <;> first | rfl | (exfalso; omega)
  · rw [if_neg hh]; unfold hid at hh; split_ifs <;> first | rfl | (exfalso; omega)

theorem select_hid (t c : ℕ) (x y : EReal) : Scalar.select (if hid t c then 1#1 else 0#1) x y = if hid t c then x else y := by
  split_ifs <;> rfl

end Sparse

section Rows

/-- The key rows of trip `t`, the random blocks being `R`. -/
def kkey (t : Fin 62) (R : Fin 3 → Fin 64) (c : Fin 512) : Fin 4096 :=
  if h : c.val < 64 then pos 0 ⟨c.val, h⟩
  else if h : c.val - 64 < 192 then ⟨64 * t.val + (c.val - 64), by omega⟩
  else if h : c.val - 64 - 192 < 64 then pos (R 0) ⟨c.val - 64 - 192, h⟩
  else if h : c.val - 64 - 192 - 64 < 64 then pos (R 1) ⟨c.val - 64 - 192 - 64, h⟩
  else if h : c.val - 64 - 192 - 64 - 64 < 64 then pos (R 2) ⟨c.val - 64 - 192 - 64 - 64, h⟩
  else pos 63 ⟨c.val - 64 - 192 - 64 - 64 - 64, by omega⟩

theorem chain_rd (x : Vec Ideal S1x4096x128 .bf16) (t : Fin 62) (R : Fin 3 → Fin 64) (e : Fin 2) (o0 o1 o2 o3 o4 o5 : Fin 3 → ℕ) (i0 i1 i2 i3 i4 i5)
    (h0 : o0 = ![0, 0, e.val * 64]) (h1 : o1 = ![0, 64 * t.val, e.val * 64]) (h2 : o2 = ![0, (R 0).val * 64, e.val * 64])
    (h3 : o3 = ![0, (R 1).val * 64, e.val * 64]) (h4 : o4 = ![0, (R 2).val * 64, e.val * 64]) (h5 : o5 = ![0, 4032, e.val * 64]) (c : Fin 512) (d : Fin 64) :
    chain (rd x (Rect.unit (s := S1x4096x128) o0 S1x64x64.size i0)) (rd x (Rect.unit (s := S1x4096x128) o2 S1x64x64.size i2))
      (rd x (Rect.unit (s := S1x4096x128) o3 S1x64x64.size i3)) (rd x (Rect.unit (s := S1x4096x128) o4 S1x64x64.size i4))
      (rd x (Rect.unit (s := S1x4096x128) o5 S1x64x64.size i5)) (rd x (Rect.unit (s := S1x4096x128) o1 S1x192x64.size i1)) c d
      = x (ix3 0 (kkey t R c) (lane2 e d)) := by
  unfold chain kkey
  split_ifs
  · exact rd64 x _ _ _ _ h0 _ _ _ _ (by simp [pos]) rfl
  · exact rd192 x _ _ _ _ h1 _ _ _ _ rfl rfl
  · exact rd64 x _ _ _ _ h2 _ _ _ _ rfl rfl
  · exact rd64 x _ _ _ _ h3 _ _ _ _ rfl rfl
  · exact rd64 x _ _ _ _ h4 _ _ _ _ rfl rfl
  · exact rd64 x _ _ _ _ h5 _ _ _ _ (by show 63 * 64 + _ = _; rfl) rfl

variable (T : S12x62x3.Idx → BitVec 32) (hT : ∀ j, (T j).toNat < 64) (q k v : Vec Ideal S1x4096x128 .bf16) (i : grid1.Coords)

/-- A query row's product with a key row, one head of the two. -/
def dot2 (e : Fin 2) (p p' : Fin 4096) : EReal := ∑ x : Fin 64, q (ix3 0 p (lane2 e x)) * k (ix3 0 p' (lane2 e x))

theorem firstPay_fst (r d : Fin 64) : firstPay q k v (ix3 0 r ⟨d.val, by omega⟩)
    = row (fun p => dot2 q k 0 (pos 0 r) p) (fun p => v (ix3 0 p (lane2 0 d))) := by
  unfold firstPay dot2
  rw [pay18_fst, pay14_apply]
  exact congrArg₂ row (funext fun p => Finset.sum_congr rfl fun x _ => congrArg₂ (· * ·)
    (rd64 q _ _ 0 0 rfl r x (pos 0 r) (lane2 0 x) (by simp [pos]) (by simp [lane2])) (rd4096 k _ _ 0 rfl p x (lane2 0 x) (by simp [lane2])))
    (funext fun p => rd4096 v _ _ 0 rfl p d (lane2 0 d) (by simp [lane2]))

theorem firstPay_snd (r d : Fin 64) : firstPay q k v (ix3 0 r ⟨64 + d.val, by omega⟩)
    = row (fun p => dot2 q k 1 (pos 0 r) p) (fun p => v (ix3 0 p (lane2 1 d))) := by
  unfold firstPay dot2
  rw [pay18_snd]
  exact congrArg₂ row (funext fun p => Finset.sum_congr rfl fun x _ => congrArg₂ (· * ·)
    (rd64 q _ _ 0 64 rfl r x (pos 0 r) (lane2 1 x) (by simp [pos]) (by simp [lane2])) (rd4096 k _ _ 64 rfl p x (lane2 1 x) (by simp [lane2])))
    (funext fun p => rd4096 v _ _ 64 rfl p d (lane2 1 d) (by simp [lane2]))

theorem lastPay_fst (r d : Fin 64) : lastPay q k v (ix3 0 r ⟨d.val, by omega⟩)
    = row (fun p => dot2 q k 0 (pos 63 r) p) (fun p => v (ix3 0 p (lane2 0 d))) := by
  unfold lastPay dot2
  rw [pay1_fst, pay19_apply]
  exact congrArg₂ row (funext fun p => Finset.sum_congr rfl fun x _ => congrArg₂ (· * ·)
    (rd64 q _ _ 4032 0 rfl r x (pos 63 r) (lane2 0 x) (by simp [pos]) (by simp [lane2])) (rd4096 k _ _ 0 rfl p x (lane2 0 x) (by simp [lane2])))
    (funext fun p => rd4096 v _ _ 0 rfl p d (lane2 0 d) (by simp [lane2]))

theorem lastPay_snd (r d : Fin 64) : lastPay q k v (ix3 0 r ⟨64 + d.val, by omega⟩)
    = row (fun p => dot2 q k 1 (pos 63 r) p) (fun p => v (ix3 0 p (lane2 1 d))) := by
  unfold lastPay dot2
  rw [pay1_snd]
  exact congrArg₂ row (funext fun p => Finset.sum_congr rfl fun x _ => congrArg₂ (· * ·)
    (rd64 q _ _ 4032 64 rfl r x (pos 63 r) (lane2 1 x) (by simp [pos]) (by simp [lane2])) (rd4096 k _ _ 64 rfl p x (lane2 1 x) (by simp [lane2])))
    (funext fun p => rd4096 v _ _ 64 rfl p d (lane2 1 d) (by simp [lane2]))

/-- The random blocks of head `e` of the pair in trip `t`. -/
def rblk (e : Fin 2) (t : Fin 62) (j : Fin 3) : Fin 64 :=
  ⟨(T (ix3 ⟨2 * (i 1).val + e.val, by have : (i 1).val < 6 := (i 1).isLt; show _ < 12; omega⟩ t j)).toNat, hT _⟩

theorem word_eq (o : Fin 3 → ℕ) (h) (j : S12x62x3.Idx) (ho : ∀ a, o a = (j a).val) : word T o h = T j := by
  unfold word
  refine congrArg T (funext fun a => Fin.ext ?_)
  have z : ∀ (y : S1x1x1.Idx), (y a).val = 0 := fun y => by
    have := (y a).isLt
    fin_cases a <;> (change (y _).val < 1 at this; omega)
  show o a + 1 * (Shape.Idx.first (s := S1x1x1) _ a).val = (j a).val
  rw [z, ho]; rfl

theorem blk_off (w : BitVec 32) (h : w.toNat < 64) (l : ℕ) : (![0, (Scalar.indexCast (Scalar.muli w 64#32) : BitVec 32).toNat, l] : Fin 3 → ℕ) = ![0, w.toNat * 64, l] := by
  have e : (Scalar.indexCast (Scalar.muli w 64#32) : BitVec 32).toNat = w.toNat * 64 := by
    show (w * 64#32).toNat = _
    rw [BitVec.toNat_mul]; exact Nat.mod_eq_of_lt (by show w.toNat * 64 < 2 ^ 32; omega)
  rw [e]

variable (t : Fin k1_t1_loop.trips)

/-- The trip as a block number. -/
abbrev tr : Fin 62 := ⟨t.val, trip_lt t⟩

theorem off_rnd (e : Fin 2) (j : Fin 3) (o : Fin 3 → ℕ) (h) (ho : o = ![2 * (i 1).val + e.val, t.val, j.val]) (l : ℕ) :
    (![0, (Scalar.indexCast (Scalar.muli (word T o h) 64#32) : BitVec 32).toNat, l] : Fin 3 → ℕ) = ![0, (rblk T hT i e (tr t) j).val * 64, l] := by
  rw [blk_off _ (word_lt T hT _ _)]
  have : word T o h = T (ix3 ⟨2 * (i 1).val + e.val, by have : (i 1).val < 6 := (i 1).isLt; show _ < 12; omega⟩ (tr t) j) := by
    refine word_eq T o h _ fun a => ?_
    subst ho
    fin_cases a <;> rfl
  rw [this]; rfl

/-- What a trip scores a column of head `e`. -/
def tscore (e : Fin 2) (r : Fin 64) (c : Fin 512) : EReal :=
  if hid t.val c.val then ⊥ else dot2 q k e (pos ⟨t.val + 1, by have := trip_lt t; omega⟩ r) (kkey (tr t) (rblk T hT i e (tr t)) c)

theorem head0_apply (r d : Fin 64) : head0 T hT q k v i (iota .tc S64x512 32 [1] iota_S64x512_d1_w32) t (ix2 r d)
    = row (tscore T hT q k i t 0 r) (fun c => v (ix3 0 (kkey (tr t) (rblk T hT i 0 (tr t)) c) (lane2 0 d))) := by
  unfold head0
  rw [pay9_apply]
  refine congrArg₂ row (funext fun c => ?_) (funext fun c => ?_)
  · rw [pay2_apply, select_hid]
    refine congrArg (ite _ _) (Finset.sum_congr rfl fun x _ => congrArg₂ (· * ·) ?_ ?_)
    · exact rd64 q _ _ _ _ (k1_off11_eq t) r x _ _ (by show (t.val + 1) * 64 + r.val = _; omega) rfl
    · unfold cat0; rw [pay4_apply]
      exact chain_rd k (tr t) _ 0 _ _ _ _ _ _ _ _ _ _ _ _ rfl (k1_off4_eq t) (off_rnd T hT i t 0 0 _ _ (k1_off1_eq i t) 0)
        (off_rnd T hT i t 0 1 _ _ (k1_off2_eq i t) 0) (off_rnd T hT i t 0 2 _ _ (k1_off3_eq i t) 0) rfl c x
  · exact chain_rd v (tr t) _ 0 _ _ _ _ _ _ _ _ _ _ _ _ rfl (k1_off8_eq t) (off_rnd T hT i t 0 0 _ _ (k1_off1_eq i t) 0)
        (off_rnd T hT i t 0 1 _ _ (k1_off2_eq i t) 0) (off_rnd T hT i t 0 2 _ _ (k1_off3_eq i t) 0) rfl c d

theorem tripPay_fst (r d : Fin 64) : tripPay T hT q k v i (iota .tc S64x512 32 [1] iota_S64x512_d1_w32) t (ix3 0 r ⟨d.val, by omega⟩)
    = row (tscore T hT q k i t 0 r) (fun c => v (ix3 0 (kkey (tr t) (rblk T hT i 0 (tr t)) c) (lane2 0 d))) := by
  unfold tripPay
  rw [pay13_fst, head0_apply]

theorem tripPay_snd (r d : Fin 64) : tripPay T hT q k v i (iota .tc S64x512 32 [1] iota_S64x512_d1_w32) t (ix3 0 r ⟨64 + d.val, by omega⟩)
    = row (tscore T hT q k i t 1 r) (fun c => v (ix3 0 (kkey (tr t) (rblk T hT i 1 (tr t)) c) (lane2 1 d))) := by
  unfold tripPay
  rw [pay13_snd]
  refine congrArg₂ row (funext fun c => ?_) (funext fun c => ?_)
  · rw [pay2_apply, select_hid]
    refine congrArg (ite _ _) (Finset.sum_congr rfl fun x _ => congrArg₂ (· * ·) ?_ ?_)
    · exact rd64 q _ _ _ _ (k1_off22_eq t) r x _ _ (by show (t.val + 1) * 64 + r.val = _; omega) rfl
    · unfold cat1
      rw [pay10_apply]
      exact chain_rd k (tr t) _ 1 _ _ _ _ _ _ _ _ _ _ _ _ rfl (k1_off15_eq t) (off_rnd T hT i t 1 0 _ _ (k1_off12_eq i t) 64)
        (off_rnd T hT i t 1 1 _ _ (k1_off13_eq i t) 64) (off_rnd T hT i t 1 2 _ _ (k1_off14_eq i t) 64) rfl c x
  · exact chain_rd v (tr t) _ 1 _ _ _ _ _ _ _ _ _ _ _ _ rfl (k1_off19_eq t) (off_rnd T hT i t 1 0 _ _ (k1_off12_eq i t) 64)
        (off_rnd T hT i t 1 1 _ _ (k1_off13_eq i t) 64) (off_rnd T hT i t 1 2 _ _ (k1_off14_eq i t) 64) rfl c d

end Rows

end Cert.Proof.Val.Ker

end
-- ==== Proof.VKerB.lean ====
module

public import proofs.«01_k».proof.Proof.VKerA
public import Idealize.ShloMosaic.Lib.Pipeline.ValueKit

/-! The attention's result block, row by row. -/

@[expose] public section

set_option maxRecDepth 16384

noncomputable section

namespace Cert.Proof.Val.Ker

open Idealize.ShloMosaic Idealize.ShloMosaic.TcCoe
open Cert.KernelIdeal Cert.KernelIdeal.Gen Cert.Proof.KernelIdeal

variable (T : S12x62x3.Idx → BitVec 32) (hT : ∀ j, (T j).toNat < 64) (q k v : Vec Ideal S1x4096x128 .bf16) (i : grid1.Coords)

/-- What each row of a result block is to be: the end blocks attend everywhere, the others as their trip does. -/
structure Rows (G : Fin 64 → Fin 64 → Fin 2 → Fin 64 → EReal) : Prop where
  first : ∀ r e d, row (fun p => dot2 q k e (pos 0 r) p) (fun p => v (ix3 0 p (lane2 e d))) = G 0 r e d
  last : ∀ r e d, row (fun p => dot2 q k e (pos 63 r) p) (fun p => v (ix3 0 p (lane2 e d))) = G 63 r e d
  trip : ∀ (t : Fin k1_t1_loop.trips) r e d, row (tscore T hT q k i t e r) (fun c => v (ix3 0 (kkey (tr t) (rblk T hT i e (tr t)) c) (lane2 e d)))
    = G ⟨t.val + 1, by have := trip_lt t; omega⟩ r e d

theorem lane_cases (l : Fin 128) : ∃ e d, l = lane2 e d :=
  ⟨⟨l.val / 64, by omega⟩, ⟨l.val % 64, by omega⟩, Fin.ext (Nat.div_add_mod' _ _).symm⟩

theorem lane2_zero (d : Fin 64) : lane2 0 d = ⟨d.val, by omega⟩ := Fin.ext (by simp [lane2])
theorem lane2_one (d : Fin 64) : lane2 1 d = ⟨64 + d.val, by omega⟩ := Fin.ext (by simp [lane2])

variable {T hT q k v i} {G : Fin 64 → Fin 64 → Fin 2 → Fin 64 → EReal} (h : Rows T hT q k v i G)

include h in
theorem first_row (r : Fin 64) (e : Fin 2) (d : Fin 64) : firstPay q k v (ix3 0 r (lane2 e d)) = G 0 r e d := by
  rw [← h.first]
  fin_cases e
  · exact (congrArg (fun l => firstPay q k v (ix3 0 r l)) (lane2_zero d)).trans (firstPay_fst q k v r d)
  · exact (congrArg (fun l => firstPay q k v (ix3 0 r l)) (lane2_one d)).trans (firstPay_snd q k v r d)

include h in
theorem last_row (r : Fin 64) (e : Fin 2) (d : Fin 64) : lastPay q k v (ix3 0 r (lane2 e d)) = G 63 r e d := by
  rw [← h.last]
  fin_cases e
  · exact (congrArg (fun l => lastPay q k v (ix3 0 r l)) (lane2_zero d)).trans (lastPay_fst q k v r d)
  · exact (congrArg (fun l => lastPay q k v (ix3 0 r l)) (lane2_one d)).trans (lastPay_snd q k v r d)

include h in
theorem trip_row (t : Fin k1_t1_loop.trips) (r : Fin 64) (e : Fin 2) (d : Fin 64) :
    tripPay T hT q k v i (iota .tc S64x512 32 [1] iota_S64x512_d1_w32) t (ix3 0 r (lane2 e d)) = G ⟨t.val + 1, by have := trip_lt t; omega⟩ r e d := by
  rw [← h.trip]
  fin_cases e
  · exact (congrArg (fun l => tripPay T hT q k v i (iota .tc S64x512 32 [1] iota_S64x512_d1_w32) t (ix3 0 r l)) (lane2_zero d)).trans (tripPay_fst T hT q k v i t r d)
  · exact (congrArg (fun l => tripPay T hT q k v i (iota .tc S64x512 32 [1] iota_S64x512_d1_w32) t (ix3 0 r l)) (lane2_one d)).trans (tripPay_snd T hT q k v i t r d)

/-- A piece of 64 whole rows agrees with `g` wherever it lands, if it does row by row. -/
theorem piece_at (o : Fin 3 → ℕ) (inb : ∀ a, o a + S1x64x128.size a ≤ S1x4096x128.size a) (pay : FVec Ideal S1x64x128 .f32) (n : Fin 64) (ho : o = ![0, n.val * 64, 0])
    (hp : ∀ r e d, pay (ix3 0 r (lane2 e d)) = G n r e d) (j : Fin 64) (r : Fin 64) (e : Fin 2) (d : Fin 64) (x : (Rect.unit (s := S1x4096x128) o S1x64x128.size inb).shape.Idx)
    (hx : (Rect.unit (s := S1x4096x128) o S1x64x128.size inb).emb x = ix3 0 (pos j r) (lane2 e d)) : pay x = G j r e d := by
  subst ho
  have h1 := congrArg (fun y : S1x4096x128.Idx => (y 1).val) hx
  have h2 := congrArg (fun y : S1x4096x128.Idx => (y 2).val) hx
  change n.val * 64 + 1 * (x 1).val = j.val * 64 + r.val at h1
  change 0 + 1 * (x 2).val = e.val * 64 + d.val at h2
  have x1 : (x 1).val < 64 := (x 1).isLt
  have hj : n = j := Fin.ext (by omega)
  subst hj
  rw [← hp]
  refine congrArg pay (funext fun a => Fin.ext ?_)
  fin_cases a
  · have : (x 0).val < 1 := (x 0).isLt
    show (x 0).val = 0; omega
  · show (x 1).val = r.val; omega
  · show (x 2).val = e.val * 64 + d.val; omega

include h in
theorem block_rows (j r : Fin 64) (e : Fin 2) (d : Fin 64) :
    View.canon (allPieces T hT q k v i) (ix3 0 (pos j r) (lane2 e d)) = G j r e d := by
  refine View.canon_eq_of_allAt _ _ _ (cover T hT q k v i _) fun p hp x hx => ?_
  rcases mem_pieces T hT q k v i _ _ _ hp with hp | ⟨t, rfl⟩
  · rcases List.mem_cons.mp hp with rfl | hp
    · exact piece_at ![0, 4032, 0] inb_S1x4096x128_S1x64x128_0_4032_0 _ 63 rfl (last_row h) j r e d x hx
    · obtain rfl := List.mem_singleton.mp hp
      exact piece_at ![0, 0, 0] inb_S1x4096x128_S1x64x128_0_0_0 _ 0 rfl (first_row h) j r e d x hx
  · exact piece_at (k1_off23 t) (k1_off23_inb t) _ ⟨t.val + 1, by have := trip_lt t; omega⟩
      ((k1_off23_eq t).trans (by rw [show 64 * t.val + 64 = (t.val + 1) * 64 by omega])) (trip_row h t) j r e d x hx

end Cert.Proof.Val.Ker

end
-- ==== Proof.VKerC.lean ====
module

public import proofs.«01_k».proof.Proof.IMain
public import proofs.«01_k».proof.Proof.VRefA
public import Idealize.ShloMosaic.Lib.Pipeline.ValueKit
public import Idealize.ShloMosaic.Lib.IdealHost

/-! What the projection is given and what it leaves. -/

@[expose] public section

set_option maxRecDepth 16384

noncomputable section

namespace Cert.Proof.Val.Ker

open Idealize.ShloMosaic Idealize.ShloMosaic.TcCoe
open Cert.KernelIdeal Cert.KernelIdeal.Gen Cert.Proof.KernelIdeal

/-- The three weight matrices side by side, the queries' scaled. -/
def weights (a b c : FVec Ideal S768x768 .f32) : FVec Ideal S768x2304 .f32 :=
  concatenate S768x2304 1 [⟨S768x768, mulf (transpose S768x768 [1, 0] a transposes_S768x768_S768x768_1_0) (broadcastInDim S768x768 ![] bcast_S_S768x768 (constant S_ .f32 0x3E000000#32))⟩,
    ⟨S768x768, transpose S768x768 [1, 0] b transposes_S768x768_S768x768_1_0⟩, ⟨S768x768, transpose S768x768 [1, 0] c transposes_S768x768_S768x768_1_0⟩]
    concatenates_S768x768_S768x768_S768x768_S768x2304_d1

/-- The three biases end to end, the queries' scaled. -/
def biases (a b c : FVec Ideal S768 .f32) : FVec Ideal S2304 .f32 :=
  concatenate S2304 0 [⟨S768, mulf a (broadcastInDim S768 ![] bcast_S_S768 (constant S_ .f32 0x3E000000#32))⟩, ⟨S768, b⟩, ⟨S768, c⟩] concatenates_S768_S768_S768_S2304_d0

theorem weights_q (a b c : FVec Ideal S768x768 .f32) (k o : Fin 768) : weights a b c (ix2 k ⟨o.val, by omega⟩) = a (ix2 o k) * Ideal.ofBits .f32 0x3E000000#32 := by
  unfold weights; pointwise
theorem weights_k (a b c : FVec Ideal S768x768 .f32) (k o : Fin 768) : weights a b c (ix2 k ⟨768 + o.val, by omega⟩) = b (ix2 o k) := by
  unfold weights; pointwise
theorem weights_v (a b c : FVec Ideal S768x768 .f32) (k o : Fin 768) : weights a b c (ix2 k ⟨1536 + o.val, by omega⟩) = c (ix2 o k) := by
  unfold weights; pointwise
  rw [dif_neg (by omega), dif_neg (by omega)]
  exact congrArg c (congrArg (ix2 · k) (Fin.ext (by show 1536 + o.val - 768 - 768 = o.val; omega)))

theorem biases_q (a b c : FVec Ideal S768 .f32) (o : Fin 768) : biases a b c (ix1 ⟨o.val, by omega⟩) = a (ix1 o) * Ideal.ofBits .f32 0x3E000000#32 := by
  unfold biases; pointwise
theorem biases_k (a b c : FVec Ideal S768 .f32) (o : Fin 768) : biases a b c (ix1 ⟨768 + o.val, by omega⟩) = b (ix1 o) := by
  unfold biases; pointwise
theorem biases_v (a b c : FVec Ideal S768 .f32) (o : Fin 768) : biases a b c (ix1 ⟨1536 + o.val, by omega⟩) = c (ix1 o) := by
  unfold biases; pointwise
  rw [dif_neg (by omega), dif_neg (by omega)]
  exact congrArg c (congrArg Idealize.ShloMosaic.ix1 (Fin.ext (by show 1536 + o.val - 768 - 768 = o.val; omega)))

variable (m : (ℓ : Loc nD τ sig) → Buf (Elt Ideal) ℓ) (c : Dev nD)

theorem V1_v11 : V1 m c main_v11 = (truncf .bf16 (weights (m ((c : Thread nD τ).loc main_arg6)) (m ((c : Thread nD τ).loc main_arg8)) (m ((c : Thread nD τ).loc main_arg10))) bitsLt_bf16_f32 : FVec Ideal S768x2304 .bf16) := by
  unfold_abbrev_sides
  after_results
  rfl

theorem V1_v9 : V1 m c main_v9 = (broadcastInDim S1x2304 ![1] bcast_S2304_S1x2304_1 (biases (m ((c : Thread nD τ).loc main_arg7)) (m ((c : Thread nD τ).loc main_arg9)) (m ((c : Thread nD τ).loc main_arg11))) : FVec Ideal S1x2304 .f32) := by
  unfold_abbrev_sides
  after_results
  rfl

theorem V1_v10 : V1 m c main_v10 = (shapeCast S16384x768 (m ((c : Thread nD τ).loc main_arg0) : FVec Ideal S4x4096x768 .f32) shapeCasts_S4x4096x768_S16384x768 : FVec Ideal S16384x768 .f32) := by
  unfold_abbrev_sides
  after_results
  rfl

theorem pay1_apply (x : Vec Ideal S1024x768 .f32) (w : Vec Ideal S768x2304 .bf16) (b : Vec Ideal S1x2304 .f32) (r : Fin 1024) (o : Fin 2304) :
    k0_pay1 x w b (ix2 r o) = (∑ k : Fin 768, (x (ix2 r k) : EReal) * w (ix2 k o)) + b (ix2 0 o) := by
  unfold k0_pay1
  pointwise

/-- The projection's array from its three operands. -/
def proj (x : FVec Ideal S16384x768 .f32) (w : FVec Ideal S768x2304 .bf16) (b : FVec Ideal S1x2304 .f32) : FVec Ideal S16384x2304 .bf16 :=
  fun i => (∑ k : Fin 768, (x (ix2 (i 0) k) : EReal) * w (ix2 k (i 1))) + b (ix2 0 (i 1))

theorem idx0_0 : ∀ t : Fin cfg0.N, win0_0.index t = ![t.val, 0] := by decide +kernel
theorem idx0_1 : ∀ t : Fin cfg0.N, win0_1.index t = ![0, 0] := by decide +kernel
theorem idx0_2 : ∀ t : Fin cfg0.N, win0_2.index t = ![0, 0] := by decide +kernel
theorem idx0_3 : ∀ t : Fin cfg0.N, win0_3.index t = ![t.val, 0] := by decide +kernel

/-- The projection's operands as arrays. -/
abbrev A10 : FVec Ideal S16384x768 .f32 := V1 m c main_v10
abbrev A11 : FVec Ideal S768x2304 .bf16 := V1 m c main_v11
abbrev A9 : FVec Ideal S1x2304 .f32 := V1 m c main_v9

theorem blk0_0_apply (t : Fin cfg0.N) (r : Fin 1024) (k : Fin 768) (p : Fin 16384) (hp : p.val = t.val * 1024 + r.val) :
    blk0_0 (V1 m) c t (ix2 r k) = A10 m c (ix2 p k) := by
  show A10 m c (((cfg0.win 0).blk t).view.emb (ix2 r k)) = _
  blk_ext [idx0_0]

theorem blk0_1_apply (t : Fin cfg0.N) (k : Fin 768) (o : Fin 2304) : blk0_1 (V1 m) c t (ix2 k o) = A11 m c (ix2 k o) := by
  show A11 m c (((cfg0.win 1).blk t).view.emb (ix2 k o)) = _
  blk_ext [idx0_1]

theorem blk0_2_apply (t : Fin cfg0.N) (o : Fin 2304) : blk0_2 (V1 m) c t (ix2 0 o) = A9 m c (ix2 0 o) := by
  show A9 m c (((cfg0.win 2).blk t).view.emb (ix2 0 o)) = _
  blk_ext [idx0_2]

theorem out0_apply (t : Fin cfg0.N) (r : Fin 1024) (o : Fin 2304) (p : Fin 16384) (hp : p.val = t.val * 1024 + r.val) : out0 (V1 m) c t (ix2 r o)
    = proj (A10 m c) (A11 m c) (A9 m c) (ix2 p o) := by
  unfold out0 projPieces
  rw [View.canon_unit_zero (by funext a; fin_cases a <;> rfl), pay1_apply]
  refine congrArg₂ (fun a b : EReal => a + b) (Finset.sum_congr rfl fun k _ => congrArg₂ (fun a b : EReal => a * b) ?_ ?_) ?_
  · refine Eq.trans (congrArg _ ?_) (blk0_0_apply m c t r k p hp)
    funext a; fin_cases a <;> exact Fin.ext (by show 0 + 1 * _ = _; omega)
  · refine Eq.trans (congrArg _ ?_) (blk0_1_apply m c t k o)
    funext a; fin_cases a <;> exact Fin.ext (by show 0 + 1 * _ = _; omega)
  · refine Eq.trans (congrArg _ ?_) (blk0_2_apply m c t o)
    funext a; fin_cases a <;> exact Fin.ext (by show 0 + 1 * _ = _; omega)

theorem out0_at (t : Fin cfg0.N) (y : S1024x2304.Idx) (i : S16384x2304.Idx) (h0 : (i 0).val = t.val * 1024 + (y 0).val) (h1 : (i 1).val = (y 1).val) :
    out0 (V1 m) c t y = proj (A10 m c) (A11 m c) (A9 m c) i := by
  have hy : y = ix2 (y 0) (y 1) := funext fun a => by fin_cases a <;> rfl
  have hi : i = ix2 (i 0) (y 1) := funext fun a => by
    fin_cases a
    · rfl
    · exact Fin.ext h1
  rw [hy, hi]
  exact out0_apply m c t (y 0) (y 1) (i 0) h0

attribute [local irreducible] out0 proj View.canon projPieces in
theorem res12_eq : res12 m c = proj (A10 m c) (A11 m c) (A9 m c) := by
  unfold res12
  refine (dat0 (V1 m) c).arrAt_eq_of_covers 3 (proj (A10 m c) (A11 m c) (A9 m c)) (by decide +kernel) fun t hf y => ?_
  blk_simp [idx0_3]
  refine out0_at m c t y _ ?_ ?_
  · blk_simp [idx0_3]
  · blk_simp [idx0_3]

end Cert.Proof.Val.Ker

end
-- ==== Proof.VKerD.lean ====
module

public import proofs.«01_k».proof.Proof.VKerB
public import proofs.«01_k».proof.Proof.VKerC

/-! What the attention is given: queries, keys and values, head by head. -/

@[expose] public section

set_option maxRecDepth 16384

noncomputable section

namespace Cert.Proof.Val.Ker

open Idealize.ShloMosaic Idealize.ShloMosaic.TcCoe
open Cert.KernelIdeal Cert.KernelIdeal.Gen Cert.Proof.KernelIdeal

variable (m : (ℓ : Loc nD τ sig) → Buf (Elt Ideal) ℓ) (c : Dev nD)

/-- The arguments as arrays. -/
abbrev X : FVec Ideal S4x4096x768 .f32 := m ((c : Thread nD τ).loc main_arg0)
abbrev Wq : FVec Ideal S768x768 .f32 := m ((c : Thread nD τ).loc main_arg6)
abbrev bq : FVec Ideal S768 .f32 := m ((c : Thread nD τ).loc main_arg7)
abbrev Wk : FVec Ideal S768x768 .f32 := m ((c : Thread nD τ).loc main_arg8)
abbrev bk : FVec Ideal S768 .f32 := m ((c : Thread nD τ).loc main_arg9)
abbrev Wv : FVec Ideal S768x768 .f32 := m ((c : Thread nD τ).loc main_arg10)
abbrev bv : FVec Ideal S768 .f32 := m ((c : Thread nD τ).loc main_arg11)

/-- The scale of a query. -/
abbrev scale : EReal := Ideal.ofBits .f32 0x3E000000#32

/-- The attention's operand array. -/
abbrev A13 : FVec Ideal S4x4096x2304 .bf16 := V3 m (outsA m) c main_v13

theorem after_v13 (V : Valuation τ sig (Elt Ideal)) : StableHlo.after (hostOps1 (F := Ideal)) V main_v13
    = (shapeCast S4x4096x2304 (V main_v12 : FVec Ideal S16384x2304 .bf16) shapeCasts_S16384x2304_S4x4096x2304 : FVec Ideal S4x4096x2304 .bf16) := by
  unfold_abbrev_sides
  after_results
  rfl

theorem A13_eq : A13 m c = (shapeCast S4x4096x2304 (proj (A10 m c) (A11 m c) (A9 m c)) shapeCasts_S16384x2304_S4x4096x2304 : FVec Ideal S4x4096x2304 .bf16) := by
  have h : V2 m (outsA m) c main_v12 = proj (A10 m c) (A11 m c) (A9 m c) := by
    unfold V2; rw [Function.update_self, outsA_v12]; exact res12_eq m c
  rw [← h]
  exact after_v13 _

theorem heads_at (y : FVec Ideal S16384x2304 .bf16) (b : Fin 4) (p : Fin 4096) (o : Fin 2304) :
    shapeCast S4x4096x2304 y shapeCasts_S16384x2304_S4x4096x2304 (ix3 b p o) = y (ix2 ⟨b.val * 4096 + p.val, by omega⟩ o) := by
  pointwise

theorem rows_at (y : FVec Ideal S4x4096x768 .f32) (b : Fin 4) (p : Fin 4096) (k : Fin 768) :
    shapeCast S16384x768 y shapeCasts_S4x4096x768_S16384x768 (ix2 ⟨b.val * 4096 + p.val, by omega⟩ k) = y (ix3 b p k) := by
  pointwise

theorem bias_at (y : FVec Ideal S2304 .f32) (o : Fin 2304) : broadcastInDim S1x2304 ![1] bcast_S2304_S1x2304_1 y (ix2 0 o) = y (Idealize.ShloMosaic.ix1 o) := by
  pointwise

theorem proj_at (x : FVec Ideal S16384x768 .f32) (w : FVec Ideal S768x2304 .bf16) (b : FVec Ideal S1x2304 .f32) (r : Fin 16384) (o : Fin 2304) :
    proj x w b (ix2 r o) = (∑ k : Fin 768, (x (ix2 r k) : EReal) * w (ix2 k o)) + b (ix2 0 o) := rfl

theorem A10_at (b : Fin 4) (p : Fin 4096) (k : Fin 768) : A10 m c (ix2 ⟨b.val * 4096 + p.val, by omega⟩ k) = X m c (ix3 b p k) :=
  (congrFun (V1_v10 m c) _).trans (rows_at _ b p k)

theorem A11_at (k : Fin 768) (o : Fin 2304) : A11 m c (ix2 k o) = weights (Wq m c) (Wk m c) (Wv m c) (ix2 k o) :=
  congrFun (V1_v11 m c) _

theorem A9_at (o : Fin 2304) : A9 m c (ix2 0 o) = biases (bq m c) (bk m c) (bv m c) (Idealize.ShloMosaic.ix1 o) :=
  (congrFun (V1_v9 m c) _).trans (bias_at _ o)

theorem A13_at (b : Fin 4) (p : Fin 4096) (o : Fin 2304) : A13 m c (ix3 b p o) = proj (A10 m c) (A11 m c) (A9 m c) (ix2 ⟨b.val * 4096 + p.val, by omega⟩ o) :=
  (congrFun (A13_eq m c) _).trans (heads_at _ b p o)

theorem A13_apply (b : Fin 4) (p : Fin 4096) (o : Fin 2304) : A13 m c (ix3 b p o)
    = (∑ k : Fin 768, (X m c (ix3 b p k) : EReal) * weights (Wq m c) (Wk m c) (Wv m c) (ix2 k o)) + biases (bq m c) (bk m c) (bv m c) (Idealize.ShloMosaic.ix1 o) := by
  rw [A13_at, proj_at, A9_at]
  congr 1
  exact Finset.sum_congr rfl fun k _ => congrArg₂ (fun a b : EReal => a * b) (A10_at m c b p k) (A11_at m c k o)

/-- A query: the scale sits on the weights and on the bias. -/
def qlin (b : Fin 4) (p : Fin 4096) (o : Fin 768) : EReal :=
  (∑ k : Fin 768, X m c (ix3 b p k) * (Wq m c (ix2 o k) * scale)) + bq m c (Idealize.ShloMosaic.ix1 o) * scale

theorem A13_q (b : Fin 4) (p : Fin 4096) (o : Fin 768) : A13 m c (ix3 b p ⟨o.val, by omega⟩) = qlin m c b p o := by
  rw [A13_apply, biases_q]
  unfold qlin
  congr 1
  exact Finset.sum_congr rfl fun k _ => congrArg (fun a : EReal => X m c (ix3 b p k) * a) (weights_q _ _ _ k o)

theorem A13_k (b : Fin 4) (p : Fin 4096) (o : Fin 768) : A13 m c (ix3 b p ⟨768 + o.val, by omega⟩) = lin (X m c) (Wk m c) (bk m c) b p o := by
  rw [A13_apply, biases_k]
  unfold lin
  congr 1
  exact Finset.sum_congr rfl fun k _ => congrArg (fun a : EReal => X m c (ix3 b p k) * a) (weights_k _ _ _ k o)

theorem A13_v (b : Fin 4) (p : Fin 4096) (o : Fin 768) : A13 m c (ix3 b p ⟨1536 + o.val, by omega⟩) = lin (X m c) (Wv m c) (bv m c) b p o := by
  rw [A13_apply, biases_v]
  unfold lin
  congr 1
  exact Finset.sum_congr rfl fun k _ => congrArg (fun a : EReal => X m c (ix3 b p k) * a) (weights_v _ _ _ k o)

end Cert.Proof.Val.Ker

end
-- ==== Proof.VKerE.lean ====
module

public import proofs.«01_k».proof.Proof.VKerD

/-! The attention's array, once its blocks are known row by row. -/

@[expose] public section

set_option maxRecDepth 16384

noncomputable section

namespace Cert.Proof.Val.Ker

open Idealize.ShloMosaic Idealize.ShloMosaic.TcCoe
open Cert.KernelIdeal Cert.KernelIdeal.Gen Cert.Proof.KernelIdeal

variable (c : Dev nD)

theorem idx1_0 : ∀ t : Fin (cfgA (F := Ideal)).N, ((pcfg1 (F := Ideal)).win (adm 1) 0).index t = ![(grid1.coords t 0).val, 0, (grid1.coords t 1).val] := by decide +kernel
theorem idx1_1 : ∀ t : Fin (cfgA (F := Ideal)).N, ((pcfg1 (F := Ideal)).win (adm 1) 1).index t = ![(grid1.coords t 0).val, 0, 6 + (grid1.coords t 1).val] := by decide +kernel
theorem idx1_2 : ∀ t : Fin (cfgA (F := Ideal)).N, ((pcfg1 (F := Ideal)).win (adm 1) 2).index t = ![(grid1.coords t 0).val, 0, 12 + (grid1.coords t 1).val] := by decide +kernel
theorem idx1_3 : ∀ t : Fin (cfgA (F := Ideal)).N, ((pcfg1 (F := Ideal)).win (adm 1) 3).index t = ![(grid1.coords t 0).val, 0, (grid1.coords t 1).val] := by decide +kernel

theorem read1_0 (Y : Vec Ideal S4x4096x2304 .bf16) (t : Fin (cfgA (F := Ideal)).N) (p : Fin 4096) (l : Fin 128) (b : Fin 4) (o : Fin 768) (hb : b.val = (grid1.coords t 0).val)
    (ho : o.val = (grid1.coords t 1).val * 128 + l.val) :
    Y ((((cfgA (F := Ideal)).win 0).blk t).view.emb (ix3 0 p l)) = Y (ix3 b p ⟨o.val, by omega⟩) := by
  blk_ext [idx1_0]
  · exact (congrArg (fun n => n + 0) (congrFun (idx1_0 t) 0)).trans hb.symm
  · refine (congrArg (fun n => n * 4096 + p.val) (congrFun (idx1_0 t) 1)).trans ?_
    show 0 * 4096 + p.val = p.val; omega
  · refine (congrArg (fun n => n * 128 + l.val) (congrFun (idx1_0 t) 2)).trans ?_
    show ((grid1.coords t 1).val) * 128 + l.val = _; omega

theorem blk1_0_apply (B : Dev nD → Valuation τ sig (Elt Ideal)) (t : Fin (cfgA (F := Ideal)).N) (p : Fin 4096) (l : Fin 128) (b : Fin 4) (o : Fin 768) (hb : b.val = (grid1.coords t 0).val)
    (ho : o.val = (grid1.coords t 1).val * 128 + l.val) :
    blk1_0 B c t (ix3 0 p l) = (B c main_v13 : Vec Ideal S4x4096x2304 .bf16) (ix3 b p ⟨o.val, by omega⟩) :=
  read1_0 (B c main_v13) t p l b o hb ho

theorem read1_1 (Y : Vec Ideal S4x4096x2304 .bf16) (t : Fin (cfgA (F := Ideal)).N) (p : Fin 4096) (l : Fin 128) (b : Fin 4) (o : Fin 768) (hb : b.val = (grid1.coords t 0).val)
    (ho : o.val = (grid1.coords t 1).val * 128 + l.val) :
    Y ((((cfgA (F := Ideal)).win 1).blk t).view.emb (ix3 0 p l)) = Y (ix3 b p ⟨768 + o.val, by omega⟩) := by
  blk_ext [idx1_1]
  · exact (congrArg (fun n => n + 0) (congrFun (idx1_1 t) 0)).trans hb.symm
  · refine (congrArg (fun n => n * 4096 + p.val) (congrFun (idx1_1 t) 1)).trans ?_
    show 0 * 4096 + p.val = p.val; omega
  · refine (congrArg (fun n => n * 128 + l.val) (congrFun (idx1_1 t) 2)).trans ?_
    show (6 + (grid1.coords t 1).val) * 128 + l.val = _; omega

theorem blk1_1_apply (B : Dev nD → Valuation τ sig (Elt Ideal)) (t : Fin (cfgA (F := Ideal)).N) (p : Fin 4096) (l : Fin 128) (b : Fin 4) (o : Fin 768) (hb : b.val = (grid1.coords t 0).val)
    (ho : o.val = (grid1.coords t 1).val * 128 + l.val) :
    blk1_1 B c t (ix3 0 p l) = (B c main_v13 : Vec Ideal S4x4096x2304 .bf16) (ix3 b p ⟨768 + o.val, by omega⟩) :=
  read1_1 (B c main_v13) t p l b o hb ho

theorem read1_2 (Y : Vec Ideal S4x4096x2304 .bf16) (t : Fin (cfgA (F := Ideal)).N) (p : Fin 4096) (l : Fin 128) (b : Fin 4) (o : Fin 768) (hb : b.val = (grid1.coords t 0).val)
    (ho : o.val = (grid1.coords t 1).val * 128 + l.val) :
    Y ((((cfgA (F := Ideal)).win 2).blk t).view.emb (ix3 0 p l)) = Y (ix3 b p ⟨1536 + o.val, by omega⟩) := by
  blk_ext [idx1_2]
  · exact (congrArg (fun n => n + 0) (congrFun (idx1_2 t) 0)).trans hb.symm
  · refine (congrArg (fun n => n * 4096 + p.val) (congrFun (idx1_2 t) 1)).trans ?_
    show 0 * 4096 + p.val = p.val; omega
  · refine (congrArg (fun n => n * 128 + l.val) (congrFun (idx1_2 t) 2)).trans ?_
    show (12 + (grid1.coords t 1).val) * 128 + l.val = _; omega

theorem blk1_2_apply (B : Dev nD → Valuation τ sig (Elt Ideal)) (t : Fin (cfgA (F := Ideal)).N) (p : Fin 4096) (l : Fin 128) (b : Fin 4) (o : Fin 768) (hb : b.val = (grid1.coords t 0).val)
    (ho : o.val = (grid1.coords t 1).val * 128 + l.val) :
    blk1_2 B c t (ix3 0 p l) = (B c main_v13 : Vec Ideal S4x4096x2304 .bf16) (ix3 b p ⟨1536 + o.val, by omega⟩) :=
  read1_2 (B c main_v13) t p l b o hb ho

theorem covers1 : ((cfgA (F := Ideal)).win 3).Covers := by decide +kernel

/-- The batch and the pair of heads of a point. -/
def bat (t : Fin (cfgA (F := Ideal)).N) : Fin 4 := ⟨(grid1.coords t 0).val, (grid1.coords t 0).isLt⟩
def hd (t : Fin (cfgA (F := Ideal)).N) (e : Fin 2) : Fin 12 := ⟨2 * (grid1.coords t 1).val + e.val, by have : (grid1.coords t 1).val < 6 := (grid1.coords t 1).isLt; omega⟩

variable {m : (ℓ : Loc nD τ sig) → Buf (Elt Ideal) ℓ} {c} {G : FVec Ideal S4x4096x768 .f32}
  (hG : ∀ t : Fin (cfgA (F := Ideal)).N, Rows tab tab_lt (blk1_0 (V3 m (outsA m)) c t) (blk1_1 (V3 m (outsA m)) c t) (blk1_2 (V3 m (outsA m)) c t) (grid1.coords t)
    fun j r e d => G (ix3 (bat t) (pos j r) (lane (hd t e) d)))

include hG in
theorem out1_at (t : Fin (cfgA (F := Ideal)).N) (y : S1x4096x128.Idx) (i : S4x4096x768.Idx) (h0 : (i 0).val = (grid1.coords t 0).val) (h1 : (i 1).val = (y 1).val)
    (h2 : (i 2).val = (grid1.coords t 1).val * 128 + (y 2).val) : out1 (V3 m (outsA m)) c t y = G i := by
  have y0 : (y 0).val < 1 := (y 0).isLt
  have y1 : (y 1).val < 4096 := (y 1).isLt
  have y2 : (y 2).val < 128 := (y 2).isLt
  let j : Fin 64 := ⟨(y 1).val / 64, by omega⟩
  let r : Fin 64 := ⟨(y 1).val % 64, by omega⟩
  let e : Fin 2 := ⟨(y 2).val / 64, by omega⟩
  let d : Fin 64 := ⟨(y 2).val % 64, by omega⟩
  have hy : y = ix3 0 (pos j r) (lane2 e d) := funext fun a => Fin.ext (by
    fin_cases a
    · show (y 0).val = 0; omega
    · show (y 1).val = (y 1).val / 64 * 64 + (y 1).val % 64; omega
    · show (y 2).val = (y 2).val / 64 * 64 + (y 2).val % 64; omega)
  have hi : i = ix3 (bat t) (pos j r) (lane (hd t e) d) := funext fun a => Fin.ext (by
    fin_cases a
    · exact h0
    · show (i 1).val = (y 1).val / 64 * 64 + (y 1).val % 64; omega
    · show (i 2).val = (2 * (grid1.coords t 1).val + (y 2).val / 64) * 64 + (y 2).val % 64; omega)
  rw [hy, hi]
  exact block_rows (hG t) j r e d

attribute [local irreducible] out1 View.canon in
include hG in
theorem res14_eq : res14 m c = G := by
  unfold res14
  refine (dat1 (V3 m (outsA m)) c).arrAt_eq_of_covers 3 G covers1 fun t hf y => ?_
  blk_simp [idx1_3]
  refine out1_at hG t y _ ?_ ?_ ?_
  · blk_simp
    exact congrFun (idx1_3 t) 0
  · blk_simp
    refine (congrArg (fun n => n * 4096 + (y 1).val) (congrFun (idx1_3 t) 1)).trans ?_
    show 0 * 4096 + (y 1).val = (y 1).val; omega
  · blk_simp
    exact congrArg (fun n => n * 128 + (y 2).val) (congrFun (idx1_3 t) 2)

end Cert.Proof.Val.Ker

end
-- ==== Proof.VRefB.lean ====
module

public import proofs.«01_k».proof.Proof.VRefA

/-! The blocks of keys and values that the reference gathers by its table. -/

@[expose] public section

set_option maxRecDepth 16384

noncomputable section

namespace Cert.Proof.Val.Ref

open Idealize.ShloMosaic Idealize.ShloMosaic.TcCoe Idealize.ShloMosaic.StableHlo
open Cert.ReferenceIdeal Cert.ReferenceIdeal.Gen Cert.ReferenceIdeal.Value

/-- The gather of whole blocks reads the block that its three words name. -/
theorem gather_block (x : S4x12x64x64x64.Idx → EReal) (idx : IVec S4x12x186x3 32) (b : Fin 4) (h : Fin 12) (n : Fin 186) (r d : Fin 64) :
    Host.gather gather_S4x12x64x64x64_S4x12x186x3_S4x12x186x64x64_34_012_n_n_012_3_1116464 x idx (ix5 b h n r d)
      = x (ix5 (⟨min (idx (ix4 b h n 0)).toInt.toNat 3, by omega⟩ : Fin 4) (⟨min (idx (ix4 b h n 1)).toInt.toNat 11, by omega⟩ : Fin 12)
          (⟨min (idx (ix4 b h n 2)).toInt.toNat 63, by omega⟩ : Fin 64) r d) := by
  have hs : ∀ k : Fin 3, gather_S4x12x64x64x64_S4x12x186x3_S4x12x186x64x64_34_012_n_n_012_3_1116464.siIdx (ix5 b h n r d) k = ix4 b h n k := fun k => by
    funext a; fin_cases k <;> fin_cases a <;> rfl
  show x _ = x _
  congr 1
  funext a
  fin_cases a
  · apply Fin.ext; show min (idx (gather_S4x12x64x64x64_S4x12x186x3_S4x12x186x64x64_34_012_n_n_012_3_1116464.siIdx (ix5 b h n r d) (0 : Fin 3))).toInt.toNat 3 + 0 + 0 = _; rw [hs]; rfl
  · apply Fin.ext; show min (idx (gather_S4x12x64x64x64_S4x12x186x3_S4x12x186x64x64_34_012_n_n_012_3_1116464.siIdx (ix5 b h n r d) (1 : Fin 3))).toInt.toNat 11 + 0 + 0 = _; rw [hs]; rfl
  · apply Fin.ext; show min (idx (gather_S4x12x64x64x64_S4x12x186x3_S4x12x186x64x64_34_012_n_n_012_3_1116464.siIdx (ix5 b h n r d) (2 : Fin 3))).toInt.toNat 63 + 0 + 0 = _; rw [hs]; rfl
  · apply Fin.ext; show _ = r.val; exact Nat.zero_add _
  · apply Fin.ext; show _ = d.val; exact Nat.zero_add _

theorem lit0_lt : ∀ a : Fin 36, ∀ b : Fin 62, (lit0 ⟨a.val * 62 + b.val, by omega⟩ : BitVec 32).toNat < 64 := by decide +kernel

theorem lit0_lt' (a : Fin 2232) : (lit0 a : BitVec 32).toNat < 64 := by
  have := lit0_lt ⟨a.val / 62, by omega⟩ ⟨a.val % 62, Nat.mod_lt _ (by omega)⟩
  have e : (⟨a.val / 62 * 62 + a.val % 62, by omega⟩ : Fin 2232) = a := Fin.ext (Nat.div_add_mod' _ 62)
  rw [← e]; exact this

/-- The block that head `h` attends to besides, from block `i + 1`: the table's `j`-th. -/
def rnd (h : Fin 12) (i : Fin 62) (j : Fin 3) : Fin 64 := ⟨(lit0 (S12x62x3.rowMajor (ix3 h i j)) : BitVec 32).toNat, lit0_lt' _⟩

variable (V0 : Valuation τ sig (Elt Ideal))

theorem v22_apply (b : Fin 4) (h : Fin 12) (i : Fin 62) (j : Fin 3) : res_main_v22 V0 (ix4 b h i j) = lit0 (S12x62x3.rowMajor (ix3 h i j)) := by
  unfold res_main_v22; clean_types
  pointwise

/-- A word below a bound is not negative, so it indexes as itself. -/
theorem wrap {w c : BitVec 32} (h : w.toNat < 64) : Scalar.select (IntOp.cmpi .slt w 0#32) (IntOp.addi w c) w = w := by
  have : IntOp.cmpi .slt w 0#32 = 0#1 := by
    show BitVec.ofBool (w.slt 0#32) = 0#1
    have : w.slt 0#32 = false := by rw [BitVec.slt_eq_decide, decide_eq_false_iff_not, BitVec.toInt_eq_toNat_of_lt (by omega)]; simp
    rw [this]; rfl
  rw [this]; rfl

theorem clamp {w : BitVec 32} {m : ℕ} (hm : m < 64) (h : w.toNat ≤ m) : min w.toInt.toNat m = w.toNat := by
  rw [BitVec.toInt_eq_toNat_of_lt (by omega), Int.toNat_natCast]; exact Nat.min_eq_left h

theorem sel52 (b : Fin 4) : min (Scalar.select (IntOp.cmpi .slt (res_main_v52 V0 (ix3 b 0 0)) 0#32) (IntOp.addi (res_main_v52 V0 (ix3 b 0 0)) 4#32)
    (res_main_v52 V0 (ix3 b 0 0)) : BitVec 32).toInt.toNat 3 = b.val := by
  have e : res_main_v52 V0 (ix3 b 0 0) = BitVec.ofNat 32 b.val := by unfold res_main_v52; clean_types; pointwise
  have t : (BitVec.ofNat 32 b.val).toNat = b.val := by rw [BitVec.toNat_ofNat]; omega
  rw [e, wrap (by omega), clamp (by omega) (by omega), t]

theorem sel54 (h : Fin 12) : min (Scalar.select (IntOp.cmpi .slt (res_main_v54 V0 (ix3 0 h 0)) 0#32) (IntOp.addi (res_main_v54 V0 (ix3 0 h 0)) 12#32)
    (res_main_v54 V0 (ix3 0 h 0)) : BitVec 32).toInt.toNat 11 = h.val := by
  have e : res_main_v54 V0 (ix3 0 h 0) = BitVec.ofNat 32 h.val := by unfold res_main_v54; clean_types; pointwise
  have t : (BitVec.ofNat 32 h.val).toNat = h.val := by rw [BitVec.toNat_ofNat]; omega
  rw [e, wrap (by omega), clamp (by omega) (by omega), t]

theorem sel55 (b : Fin 4) (h : Fin 12) (i : Fin 62) (j : Fin 3) (n : Fin 186) (hn : n.val = i.val * 3 + j.val) :
    min (Scalar.select (IntOp.cmpi .slt (res_main_v55 V0 (ix3 b h n)) 0#32) (IntOp.addi (res_main_v55 V0 (ix3 b h n)) 64#32)
    (res_main_v55 V0 (ix3 b h n)) : BitVec 32).toInt.toNat 63 = (rnd h i j).val := by
  have e : res_main_v55 V0 (ix3 b h n) = lit0 (S12x62x3.rowMajor (ix3 h i j)) := by
    rw [← v22_apply V0 b]; unfold res_main_v55; clean_types; pointwise
    congr 2 <;> apply Fin.ext <;> simp only [hn] <;> omega
  have t := lit0_lt' (S12x62x3.rowMajor (ix3 h i j))
  rw [e, wrap t, clamp (by omega) (by omega)]; rfl

theorem v78_apply (b : Fin 4) (h : Fin 12) (i : Fin 62) (c : Fin 192) (d : Fin 64) :
    res_main_v78 V0 (ix5 b h i c d) = K V0 b h (pos (rnd h i ⟨c.val / 64, by omega⟩) ⟨c.val % 64, Nat.mod_lt _ (by omega)⟩) d := by
  rw [← v49_apply]
  unfold res_main_v78; clean_types
  pointwise [gather_block]
  simp only [sel52, sel54, sel55 V0 b h i ⟨c.val / 64, by omega⟩ ⟨i.val * 3 + c.val / 64, by omega⟩ rfl]

theorem v101_apply (b : Fin 4) (h : Fin 12) (i : Fin 62) (c : Fin 192) (d : Fin 64) :
    res_main_v101 V0 (ix5 b h i c d) = W V0 b h (pos (rnd h i ⟨c.val / 64, by omega⟩) ⟨c.val % 64, Nat.mod_lt _ (by omega)⟩) d := by
  rw [← v50_apply]
  unfold res_main_v101; clean_types
  pointwise [gather_block]
  simp only [sel52, sel54, sel55 V0 b h i ⟨c.val / 64, by omega⟩ ⟨i.val * 3 + c.val / 64, by omega⟩ rfl]

end Cert.Proof.Val.Ref

end
-- ==== Proof.VRefC.lean ====
module

public import proofs.«01_k».proof.Proof.VRefB

/-! The reference's scores. -/

@[expose] public section

set_option maxRecDepth 16384

noncomputable section

namespace Cert.Proof.Val.Ref

open Idealize.ShloMosaic Idealize.ShloMosaic.TcCoe Idealize.ShloMosaic.StableHlo
open Cert.ReferenceIdeal Cert.ReferenceIdeal.Gen Cert.ReferenceIdeal.Value

variable (V0 : Valuation τ sig (Elt Ideal))

/-- The reference's score of a query row against a key row. -/
def score (b : Fin 4) (h : Fin 12) (p p' : Fin 4096) : EReal := (∑ d : Fin 64, Q V0 b h p d * K V0 b h p' d) * Ideal.ofBits .f32 0x3E000000#32

/-- The masks keep everything. -/
structure Opened : Prop where
  band : ∀ j, (V0 (Proc.devRef .tc main_arg1)) j = (1 : EReal)
  out : ∀ j, (V0 (Proc.devRef .tc main_arg2)) j = (1 : EReal)
  key : ∀ j, (V0 (Proc.devRef .tc main_arg3)) j = (1 : EReal)
  fromB : ∀ j, (V0 (Proc.devRef .tc main_arg4)) j = (1 : EReal)
  toB : ∀ j, (V0 (Proc.devRef .tc main_arg5)) j = (1 : EReal)

/-- A mask that is one adds nothing. -/
theorem open_add (x M : EReal) : x + ((1 : EReal) - (1 : EReal)) * M = x := by
  have : (1 : EReal) - 1 = 0 := by rw [← EReal.coe_one, ← EReal.coe_sub, sub_self]; rfl
  rw [this, zero_mul, add_zero]

variable {V0} (hO : Opened V0)

/-- The key rows of the second and of the second-last block. -/
def key7 (h : Fin 12) (B0 B1 B2 B3 : Fin 64) (i : Fin 62) (c : Fin 448) : Fin 4096 :=
  if h1 : c.val < 64 then pos B0 ⟨c.val, h1⟩
  else if h2 : c.val - 64 < 64 then pos B1 ⟨c.val - 64, h2⟩
  else if h3 : c.val - 64 - 64 < 64 then pos B2 ⟨c.val - 64 - 64, h3⟩
  else if h4 : c.val - 64 - 64 - 64 < 64 then pos B3 ⟨c.val - 64 - 64 - 64, h4⟩
  else pos (rnd h i ⟨(c.val - 64 - 64 - 64 - 64) / 64, by omega⟩) ⟨(c.val - 64 - 64 - 64 - 64) % 64, Nat.mod_lt _ (by omega)⟩

/-- The key rows of a block between: block `i + 2`. -/
def key8 (h : Fin 12) (i : Fin 60) (c : Fin 512) : Fin 4096 :=
  if h1 : c.val < 64 then pos 0 ⟨c.val, h1⟩
  else if h2 : c.val - 64 < 192 then
    (if h3 : c.val - 64 < 64 then pos ⟨1 + i.val, by omega⟩ ⟨c.val - 64, h3⟩
    else if h4 : c.val - 64 - 64 < 64 then pos ⟨2 + i.val, by omega⟩ ⟨c.val - 64 - 64, h4⟩
    else pos ⟨3 + i.val, by omega⟩ ⟨c.val - 64 - 64 - 64, by omega⟩)
  else if h3 : c.val - 64 - 192 < 192 then
    pos (rnd h ⟨1 + i.val, by omega⟩ ⟨(c.val - 64 - 192) / 64, by omega⟩) ⟨(c.val - 64 - 192) % 64, Nat.mod_lt _ (by omega)⟩
  else pos 63 ⟨c.val - 64 - 192 - 192, by omega⟩

include hO in
theorem gather_one {w : ℕ} (i : IVec S4x2232x2 w) (j) : Host.gather gather_S4x64x64_S4x2232x2_S4x2232x64_2_01_n_n_01_2_1164 (V0 (Proc.devRef .tc main_arg5)) i j = (1 : EReal) := by
  unfold Host.gather
  exact hO.toB _

include hO in
theorem v47_one (b : Fin 4) (h : Fin 12) (i : Fin 62) (r : Fin 64) (c : Fin 192) : res_main_v47 V0 (ix5 b h i r c) = (1 : EReal) := by
  unfold res_main_v47; clean_types
  pointwise [hO.fromB, gather_one hO]

include hO in
theorem v112_apply (b : Fin 4) (h : Fin 12) (r : Fin 64) (p : Fin 4096) : res_main_v112 V0 (ix4 b h r p) = score V0 b h (pos 0 r) p := by
  unfold res_main_v112; clean_types
  pointwise [hO.key, v48_apply, v13_apply, open_add]
  rfl

include hO in
theorem v328_apply (b : Fin 4) (h : Fin 12) (r : Fin 64) (p : Fin 4096) : res_main_v328 V0 (ix4 b h r p) = score V0 b h (pos 63 r) p := by
  unfold res_main_v328; clean_types
  pointwise [hO.key, v48_apply, v13_apply, open_add]
  rfl

include hO in
theorem v167_apply (b : Fin 4) (h : Fin 12) (r : Fin 64) (c : Fin 448) :
    res_main_v167 V0 (ix4 b h r c) = score V0 b h (pos 1 r) (key7 h 0 1 2 63 0 c) := by
  unfold res_main_v167; clean_types
  pointwise [hO.key, v48_apply, v13_apply, v49_apply, v78_apply, v47_one hO]
  simp only [dite_eq_ite, ite_self, min_self, open_add]
  unfold score key7
  split_ifs <;> rfl

include hO in
theorem v304_apply (b : Fin 4) (h : Fin 12) (r : Fin 64) (c : Fin 448) :
    res_main_v304 V0 (ix4 b h r c) = score V0 b h (pos 62 r) (key7 h 0 61 62 63 61 c) := by
  unfold res_main_v304; clean_types
  pointwise [hO.key, v48_apply, v13_apply, v49_apply, v78_apply, v47_one hO]
  simp only [dite_eq_ite, ite_self, min_self, open_add]
  unfold score key7
  split_ifs <;> rfl

theorem v189_apply (b : Fin 4) (h : Fin 12) (i : Fin 60) (r d : Fin 64) : res_main_v189 V0 (ix5 b h i r d) = Q V0 b h (pos ⟨2 + i.val, by omega⟩ r) d := by
  unfold res_main_v189; clean_types
  pointwise [v48_apply]

include hO in
theorem v235_apply (b : Fin 4) (h : Fin 12) (i : Fin 60) (r : Fin 64) (c : Fin 512) :
    res_main_v235 V0 (ix5 b h i r c) = score V0 b h (pos ⟨2 + i.val, by omega⟩ r) (key8 h i c) := by
  unfold res_main_v235; clean_types
  pointwise [hO.key, hO.band, v189_apply, v49_apply, v78_apply, v47_one hO]
  simp only [open_add]
  unfold score key8
  split_ifs <;> rfl

end Cert.Proof.Val.Ref

end
-- ==== Proof.VRefD.lean ====
module

public import proofs.«01_k».proof.Proof.VRefC
public import proofs.«01_k».proof.Proof.VSoft

/-! The reference's rows, block by block. -/

@[expose] public section

set_option maxRecDepth 16384

noncomputable section

namespace Cert.Proof.Val.Ref

open Idealize.ShloMosaic Idealize.ShloMosaic.TcCoe Idealize.ShloMosaic.StableHlo
open Cert.ReferenceIdeal Cert.ReferenceIdeal.Gen Cert.ReferenceIdeal.Value

variable {V0 : Valuation τ sig (Elt Ideal)} (hO : Opened V0)

theorem ninf : Ideal.ofBits .f32 0xFF800000#32 = ⊥ := by
  simp [Ideal.ofBits, Ideal.ieee]

theorem fold_lift {n : ℕ} {f g : Fin n → EReal} (h : ∀ {k}, f k = g k) :
    Finset.univ.fold (FloatOps.maximumf (F := Ideal) (φ := .f32)) (constant (F := Ideal) S_ .f32 0xFF800000#32 (Shape.Idx.first h_S_)) f = Finset.univ.fold max ⊥ g := by
  rw [funext fun k => h (k := k)]
  show Finset.univ.fold (max : EReal → EReal → EReal) (Ideal.ofBits .f32 0xFF800000#32) g = _
  rw [ninf]

theorem shift448 (x : FVec Ideal S4x12x64x448 .f32) (y : FVec Ideal S4x12x64 .f32) (b : Fin 4) (h : Fin 12) (r : Fin 64) (c : Fin 448) :
    Host.exp (subf x (broadcastInDim S4x12x64x448 ![0, 1, 2, 3] bcast_S4x12x64x1_S4x12x64x448_0_1_2_3 (broadcastInDim S4x12x64x1 ![0, 1, 2] bcast_S4x12x64_S4x12x64x1_0_1_2
      (maximumf (broadcastInDim S4x12x64 ![] bcast_S_S4x12x64 (constant S_ .f32 0xFF800000#32)) y)))) (ix4 b h r c)
      = Ideal.exp (x (ix4 b h r c) - max ⊥ (y (ix3 b h r))) := by
  pointwise [ninf]

theorem top448 (x : FVec Ideal S4x12x64x448 .f32) (b : Fin 4) (h : Fin 12) (r : Fin 64) :
    Host.reduce FloatOps.maximumf x (constant S_ .f32 0xFF800000#32) reducesTo_S4x12x64x448_S4x12x64_d3 h_S_ (ix3 b h r)
      = Finset.univ.fold max ⊥ fun k : Fin 448 => x (ix4 b h r k) := by
  rw [Host.reduce_eq_fold_single _ _ _ _ (by decide)]
  exact fold_lift (congrArg x <| funext fun a => by fin_cases a <;> rfl)

theorem expo448 (x : FVec Ideal S4x12x64x448 .f32) (b : Fin 4) (h : Fin 12) (r : Fin 64) (c : Fin 448) :
    Host.exp (subf x (broadcastInDim S4x12x64x448 ![0, 1, 2, 3] bcast_S4x12x64x1_S4x12x64x448_0_1_2_3 (broadcastInDim S4x12x64x1 ![0, 1, 2] bcast_S4x12x64_S4x12x64x1_0_1_2
      (maximumf (broadcastInDim S4x12x64 ![] bcast_S_S4x12x64 (constant S_ .f32 0xFF800000#32))
        (Host.reduce FloatOps.maximumf x (constant S_ .f32 0xFF800000#32) reducesTo_S4x12x64x448_S4x12x64_d3 h_S_))))) (ix4 b h r c)
      = Ideal.exp (x (ix4 b h r c) - max ⊥ (Finset.univ.fold max ⊥ fun k : Fin 448 => x (ix4 b h r k))) :=
  (shift448 x _ b h r c).trans (congrArg (fun m => Ideal.exp (x (ix4 b h r c) - max ⊥ m)) (top448 x b h r))

theorem shift4096 (x : FVec Ideal S4x12x64x4096 .f32) (y : FVec Ideal S4x12x64 .f32) (b : Fin 4) (h : Fin 12) (r : Fin 64) (c : Fin 4096) :
    Host.exp (subf x (broadcastInDim S4x12x64x4096 ![0, 1, 2, 3] bcast_S4x12x64x1_S4x12x64x4096_0_1_2_3 (broadcastInDim S4x12x64x1 ![0, 1, 2] bcast_S4x12x64_S4x12x64x1_0_1_2
      (maximumf (broadcastInDim S4x12x64 ![] bcast_S_S4x12x64 (constant S_ .f32 0xFF800000#32)) y)))) (ix4 b h r c)
      = Ideal.exp (x (ix4 b h r c) - max ⊥ (y (ix3 b h r))) := by
  pointwise [ninf]

theorem top4096 (x : FVec Ideal S4x12x64x4096 .f32) (b : Fin 4) (h : Fin 12) (r : Fin 64) :
    Host.reduce FloatOps.maximumf x (constant S_ .f32 0xFF800000#32) reducesTo_S4x12x64x4096_S4x12x64_d3 h_S_ (ix3 b h r)
      = Finset.univ.fold max ⊥ fun k : Fin 4096 => x (ix4 b h r k) := by
  rw [Host.reduce_eq_fold_single _ _ _ _ (by decide)]
  exact fold_lift (congrArg x <| funext fun a => by fin_cases a <;> rfl)

theorem expo4096 (x : FVec Ideal S4x12x64x4096 .f32) (b : Fin 4) (h : Fin 12) (r : Fin 64) (c : Fin 4096) :
    Host.exp (subf x (broadcastInDim S4x12x64x4096 ![0, 1, 2, 3] bcast_S4x12x64x1_S4x12x64x4096_0_1_2_3 (broadcastInDim S4x12x64x1 ![0, 1, 2] bcast_S4x12x64_S4x12x64x1_0_1_2
      (maximumf (broadcastInDim S4x12x64 ![] bcast_S_S4x12x64 (constant S_ .f32 0xFF800000#32))
        (Host.reduce FloatOps.maximumf x (constant S_ .f32 0xFF800000#32) reducesTo_S4x12x64x4096_S4x12x64_d3 h_S_))))) (ix4 b h r c)
      = Ideal.exp (x (ix4 b h r c) - max ⊥ (Finset.univ.fold max ⊥ fun k : Fin 4096 => x (ix4 b h r k))) :=
  (shift4096 x _ b h r c).trans (congrArg (fun m => Ideal.exp (x (ix4 b h r c) - max ⊥ m)) (top4096 x b h r))

theorem shift512 (x : FVec Ideal S4x12x60x64x512 .f32) (y : FVec Ideal S4x12x60x64 .f32) (b : Fin 4) (h : Fin 12) (i : Fin 60) (r : Fin 64) (c : Fin 512) :
    Host.exp (subf x (broadcastInDim S4x12x60x64x512 ![0, 1, 2, 3, 4] bcast_S4x12x60x64x1_S4x12x60x64x512_0_1_2_3_4 (broadcastInDim S4x12x60x64x1 ![0, 1, 2, 3] bcast_S4x12x60x64_S4x12x60x64x1_0_1_2_3
      (maximumf (broadcastInDim S4x12x60x64 ![] bcast_S_S4x12x60x64 (constant S_ .f32 0xFF800000#32)) y)))) (ix5 b h i r c)
      = Ideal.exp (x (ix5 b h i r c) - max ⊥ (y (ix4 b h i r))) := by
  pointwise [ninf]

theorem top512 (x : FVec Ideal S4x12x60x64x512 .f32) (b : Fin 4) (h : Fin 12) (i : Fin 60) (r : Fin 64) :
    Host.reduce FloatOps.maximumf x (constant S_ .f32 0xFF800000#32) reducesTo_S4x12x60x64x512_S4x12x60x64_d4 h_S_ (ix4 b h i r)
      = Finset.univ.fold max ⊥ fun k : Fin 512 => x (ix5 b h i r k) := by
  rw [Host.reduce_eq_fold_single _ _ _ _ (by decide)]
  exact fold_lift (congrArg x <| funext fun a => by fin_cases a <;> rfl)

theorem expo512 (x : FVec Ideal S4x12x60x64x512 .f32) (b : Fin 4) (h : Fin 12) (i : Fin 60) (r : Fin 64) (c : Fin 512) :
    Host.exp (subf x (broadcastInDim S4x12x60x64x512 ![0, 1, 2, 3, 4] bcast_S4x12x60x64x1_S4x12x60x64x512_0_1_2_3_4 (broadcastInDim S4x12x60x64x1 ![0, 1, 2, 3] bcast_S4x12x60x64_S4x12x60x64x1_0_1_2_3
      (maximumf (broadcastInDim S4x12x60x64 ![] bcast_S_S4x12x60x64 (constant S_ .f32 0xFF800000#32))
        (Host.reduce FloatOps.maximumf x (constant S_ .f32 0xFF800000#32) reducesTo_S4x12x60x64x512_S4x12x60x64_d4 h_S_))))) (ix5 b h i r c)
      = Ideal.exp (x (ix5 b h i r c) - max ⊥ (Finset.univ.fold max ⊥ fun k : Fin 512 => x (ix5 b h i r k))) :=
  (shift512 x _ b h i r c).trans (congrArg (fun m => Ideal.exp (x (ix5 b h i r c) - max ⊥ m)) (top512 x b h i r))

include hO in
theorem v119_apply (b : Fin 4) (h : Fin 12) (r : Fin 64) (p : Fin 4096) : res_main_v119 V0 (ix4 b h r p)
    = Ideal.exp (score V0 b h (pos 0 r) p - max ⊥ (Finset.univ.fold max ⊥ fun x => score V0 b h (pos 0 r) x)) := by
  unfold res_main_v119
  refine (expo4096 _ _ _ _ _).trans ?_
  simp only [v112_apply hO]

include hO in
theorem v335_apply (b : Fin 4) (h : Fin 12) (r : Fin 64) (p : Fin 4096) : res_main_v335 V0 (ix4 b h r p)
    = Ideal.exp (score V0 b h (pos 63 r) p - max ⊥ (Finset.univ.fold max ⊥ fun x => score V0 b h (pos 63 r) x)) := by
  unfold res_main_v335
  refine (expo4096 _ _ _ _ _).trans ?_
  simp only [v328_apply hO]

include hO in
theorem v174_apply (b : Fin 4) (h : Fin 12) (r : Fin 64) (c : Fin 448) : res_main_v174 V0 (ix4 b h r c)
    = Ideal.exp (score V0 b h (pos 1 r) (key7 h 0 1 2 63 0 c) - max ⊥ (Finset.univ.fold max ⊥ fun x => score V0 b h (pos 1 r) (key7 h 0 1 2 63 0 x))) := by
  unfold res_main_v174
  refine (expo448 _ _ _ _ _).trans ?_
  simp only [v167_apply hO]

include hO in
theorem v311_apply (b : Fin 4) (h : Fin 12) (r : Fin 64) (c : Fin 448) : res_main_v311 V0 (ix4 b h r c)
    = Ideal.exp (score V0 b h (pos 62 r) (key7 h 0 61 62 63 61 c) - max ⊥ (Finset.univ.fold max ⊥ fun x => score V0 b h (pos 62 r) (key7 h 0 61 62 63 61 x))) := by
  unfold res_main_v311
  refine (expo448 _ _ _ _ _).trans ?_
  simp only [v304_apply hO]

include hO in
theorem v242_apply (b : Fin 4) (h : Fin 12) (i : Fin 60) (r : Fin 64) (c : Fin 512) : res_main_v242 V0 (ix5 b h i r c)
    = Ideal.exp (score V0 b h (pos ⟨2 + i.val, by omega⟩ r) (key8 h i c) - max ⊥ (Finset.univ.fold max ⊥ fun x => score V0 b h (pos ⟨2 + i.val, by omega⟩ r) (key8 h i x))) := by
  unfold res_main_v242
  refine (expo512 _ _ _ _ _ _).trans ?_
  simp only [v235_apply hO]

end Cert.Proof.Val.Ref

end
-- ==== Proof.VRefE.lean ====
module

public import proofs.«01_k».proof.Proof.VRefD

/-! The reference's rows, block by block. -/

@[expose] public section

set_option maxRecDepth 16384

noncomputable section

namespace Cert.Proof.Val.Ref

open Idealize.ShloMosaic Idealize.ShloMosaic.TcCoe Idealize.ShloMosaic.StableHlo
open Cert.ReferenceIdeal Cert.ReferenceIdeal.Gen Cert.ReferenceIdeal.Value

variable {V0 : Valuation τ sig (Elt Ideal)} (hO : Opened V0)

include hO in
theorem v246_apply (b : Fin 4) (h : Fin 12) (i : Fin 60) (r : Fin 64) (c : Fin 512) : res_main_v246 V0 (ix5 b h i r c)
    = Ideal.div (res_main_v242 V0 (ix5 b h i r c)) (∑ k : Fin 512, res_main_v242 V0 (ix5 b h i r k)) := by
  unfold res_main_v246; clean_types
  pointwise

variable (hS : ∀ b h p p', ∃ r : ℝ, score V0 b h p p' = (r : EReal))

include hO hS in
theorem v342_zero (b : Fin 4) (h : Fin 12) (r : Fin 64) (d : Fin 64) :
    res_main_v342 V0 (ix5 b h 0 r d) = row (fun p => score V0 b h (pos 0 r) p) (fun p => W V0 b h p d) := by
  unfold res_main_v342; clean_types
  pointwise [v119_apply hO, v20_apply]
  exact soft_eq_row (by omega) _ (fun p => hS _ _ _ _) _

include hO hS in
theorem v342_one (b : Fin 4) (h : Fin 12) (r : Fin 64) (d : Fin 64) :
    res_main_v342 V0 (ix5 b h 1 r d) = row (fun c => score V0 b h (pos 1 r) (key7 h 0 1 2 63 0 c)) (fun c => W V0 b h (key7 h 0 1 2 63 0 c) d) := by
  rw [← soft_eq_row (by omega) _ (fun p => hS _ _ _ _) _]
  unfold res_main_v342; clean_types
  pointwise [v174_apply hO, v50_apply, v101_apply]
  refine Finset.sum_congr rfl fun c _ => congrArg _ ?_
  unfold key7
  split_ifs <;> rfl

include hO hS in
theorem v342_last2 (b : Fin 4) (h : Fin 12) (r : Fin 64) (d : Fin 64) :
    res_main_v342 V0 (ix5 b h 62 r d) = row (fun c => score V0 b h (pos 62 r) (key7 h 0 61 62 63 61 c)) (fun c => W V0 b h (key7 h 0 61 62 63 61 c) d) := by
  rw [← soft_eq_row (by omega) _ (fun p => hS _ _ _ _) _]
  unfold res_main_v342; clean_types
  pointwise [v311_apply hO, v50_apply, v101_apply]
  refine Finset.sum_congr rfl fun c _ => congrArg _ ?_
  unfold key7
  split_ifs <;> rfl

include hO hS in
theorem v342_last (b : Fin 4) (h : Fin 12) (r : Fin 64) (d : Fin 64) :
    res_main_v342 V0 (ix5 b h 63 r d) = row (fun p => score V0 b h (pos 63 r) p) (fun p => W V0 b h p d) := by
  unfold res_main_v342; clean_types
  pointwise [v335_apply hO, v20_apply]
  exact soft_eq_row (by omega) _ (fun p => hS _ _ _ _) _

/-- A sum over the columns in the four parts the reference adds. -/
theorem sum_parts (f : Fin 512 → EReal) : ∑ c, f c = (∑ x : Fin 192, f ⟨64 + x.val, by omega⟩) + (∑ x : Fin 192, f ⟨256 + x.val, by omega⟩)
    + (∑ x : Fin 64, f ⟨x.val, by omega⟩) + ∑ x : Fin 64, f ⟨448 + x.val, by omega⟩ := by
  have e1 := Fin.sum_univ_add (a := 64) (b := 448) f
  have e2 := Fin.sum_univ_add (a := 192) (b := 256) fun x => f (Fin.natAdd 64 x)
  have e3 := Fin.sum_univ_add (a := 192) (b := 64) fun x => f (Fin.natAdd 64 (Fin.natAdd 192 x))
  rw [e1, e2, e3]
  have a1 : ∀ x : Fin 192, Fin.natAdd 64 (Fin.castAdd 256 x) = (⟨64 + x.val, by omega⟩ : Fin 512) := fun x => rfl
  have a2 : ∀ x : Fin 192, Fin.natAdd 64 (Fin.natAdd 192 (Fin.castAdd 64 x)) = (⟨256 + x.val, by omega⟩ : Fin 512) := fun x => Fin.ext (by simp; omega)
  have a3 : ∀ x : Fin 64, Fin.natAdd 64 (Fin.natAdd 192 (Fin.natAdd 192 x)) = (⟨448 + x.val, by omega⟩ : Fin 512) := fun x => Fin.ext (by simp; omega)
  have a4 : ∀ x : Fin 64, Fin.castAdd 448 x = (⟨x.val, by omega⟩ : Fin 512) := fun x => rfl
  simp only [a1, a2, a3, a4]
  ac_rfl

theorem key8_first (h : Fin 12) (i : Fin 60) (x : Fin 64) : key8 h i ⟨x.val, by omega⟩ = pos 0 x := dif_pos x.isLt

theorem key8_near (h : Fin 12) (i : Fin 60) (x : Fin 192) : key8 h i ⟨64 + x.val, by omega⟩
    = if h3 : x.val < 64 then pos ⟨1 + i.val, by omega⟩ ⟨x.val, h3⟩
      else if h4 : x.val - 64 < 64 then pos ⟨2 + i.val, by omega⟩ ⟨x.val - 64, h4⟩
      else pos ⟨3 + i.val, by omega⟩ ⟨x.val - 64 - 64, by omega⟩ := by
  unfold key8
  rw [dif_neg (by show ¬ 64 + x.val < 64; omega), dif_pos (by show 64 + x.val - 64 < 192; omega)]
  have e : 64 + x.val - 64 = x.val := by omega
  simp only [e]

theorem key8_rnd (h : Fin 12) (i : Fin 60) (x : Fin 192) : key8 h i ⟨256 + x.val, by omega⟩
    = pos (rnd h ⟨1 + i.val, by omega⟩ ⟨x.val / 64, by omega⟩) ⟨x.val % 64, Nat.mod_lt _ (by omega)⟩ := by
  unfold key8
  rw [dif_neg (by show ¬ 256 + x.val < 64; omega), dif_neg (by show ¬ 256 + x.val - 64 < 192; omega), dif_pos (by show 256 + x.val - 64 - 192 < 192; omega)]
  have e : 256 + x.val - 64 - 192 = x.val := by omega
  simp only [e]

theorem key8_last (h : Fin 12) (i : Fin 60) (x : Fin 64) : key8 h i ⟨448 + x.val, by omega⟩ = pos 63 x := by
  unfold key8
  rw [dif_neg (by show ¬ 448 + x.val < 64; omega), dif_neg (by show ¬ 448 + x.val - 64 < 192; omega), dif_neg (by show ¬ 448 + x.val - 64 - 192 < 192; omega)]
  have e : 448 + x.val - 64 - 192 - 192 = x.val := by omega
  simp only [e]

set_option maxHeartbeats 1000000 in
include hO hS in
theorem v342_mid (b : Fin 4) (h : Fin 12) (i : Fin 60) (r : Fin 64) (d : Fin 64) :
    res_main_v342 V0 (ix5 b h ⟨2 + i.val, by omega⟩ r d)
      = row (fun c => score V0 b h (pos ⟨2 + i.val, by omega⟩ r) (key8 h i c)) (fun c => W V0 b h (key8 h i c) d) := by
  rw [← soft_eq_row (by omega) _ (fun p => hS _ _ _ _) _, sum_parts]
  have i0 : 2 + i.val - 1 - 1 = i.val := by omega
  unfold res_main_v342; clean_types
  pointwise [v246_apply hO, v242_apply hO, v50_apply, v101_apply]
  rw [dif_neg (by omega), dif_neg (by omega), dif_pos (by omega)]
  simp only [i0]
  refine congrArg₂ (· + ·) (congrArg₂ (· + ·) (congrArg₂ (· + ·) (Finset.sum_congr rfl fun x _ => congrArg _ ?_)
    (Finset.sum_congr rfl fun x _ => congrArg _ ?_)) (Finset.sum_congr rfl fun x _ => congrArg _ ?_)) (Finset.sum_congr rfl fun x _ => congrArg _ ?_)
  · refine Eq.trans ?_ (congrArg (fun p => W V0 b h p d) (key8_near h i x).symm)
    show _ = W V0 b h _ d
    split_ifs <;> rfl
  · exact (congrArg (fun p => W V0 b h p d) (key8_rnd h i x).symm)
  · exact (congrArg (fun p => W V0 b h p d) (key8_first h i x).symm)
  · exact (congrArg (fun p => W V0 b h p d) (key8_last h i x).symm)

end Cert.Proof.Val.Ref

end
-- ==== Proof.VRefF.lean ====
module

public import proofs.«01_k».proof.Proof.VRefE

/-! The reference's rows, side by side. -/

@[expose] public section

set_option maxRecDepth 16384

noncomputable section

namespace Cert.Proof.Val.Ref

open Idealize.ShloMosaic Idealize.ShloMosaic.TcCoe Idealize.ShloMosaic.StableHlo
open Cert.ReferenceIdeal Cert.ReferenceIdeal.Gen Cert.ReferenceIdeal.Value

theorem join_rows (y : FVec Ideal S4x12x64x64x64 .f32) (M : FVec Ideal S4x1x4096x1 .f32) (hM : M = fun _ => (1 : EReal)) (b : Fin 4) (p : Fin 4096) (o : Fin 768) :
    (shapeCast S4x4096x768 (transpose S4x4096x12x64 [0, 2, 1, 3] (mulf (shapeCast S4x12x4096x64 y shapeCasts_S4x12x64x64x64_S4x12x4096x64)
      (broadcastInDim S4x12x4096x64 ![0, 1, 2, 3] bcast_S4x1x4096x1_S4x12x4096x64_0_1_2_3 M))
      transposes_S4x12x4096x64_S4x4096x12x64_0_2_1_3) shapeCasts_S4x4096x12x64_S4x4096x768) (ix3 b p o)
      = y (ix5 b ⟨o.val / 64, by omega⟩ ⟨p.val / 64, by omega⟩ ⟨p.val % 64, by omega⟩ ⟨o.val % 64, by omega⟩) := by
  subst hM
  pointwise

end Cert.Proof.Val.Ref

end
-- ==== Proof.VRows.lean ====
module

public import proofs.«01_k».proof.Proof.VKerA
public import proofs.«01_k».proof.Proof.VRefC

/-! The two programs' rows attend to the same keys: the kernel's columns against the reference's, 64 at a time. -/

@[expose] public section

set_option maxRecDepth 16384

noncomputable section

namespace Cert.Proof.Val

open Idealize.ShloMosaic
open Ker (kkey hid)
open Ref (key7 key8 rnd)

/-- A sum over columns, 64 at a time. -/
theorem sum_blocks {n k : ℕ} (hk : n = k * 64) (f : Fin n → EReal) : ∑ c, f c = ∑ a : Fin k, ∑ x : Fin 64, f ⟨a.val * 64 + x.val, by omega⟩ := by
  subst hk
  rw [← Fintype.sum_prod_type', ← finProdFinEquiv.sum_comp f]
  refine Finset.sum_congr rfl fun p _ => congrArg f (Fin.ext ?_)
  show p.2.val + 64 * p.1.val = p.1.val * 64 + p.2.val
  omega

/-- The blocks of the kernel's columns. -/
def kb (t : Fin 62) (R : Fin 3 → Fin 64) : Fin 8 → Fin 64 :=
  ![0, ⟨t.val, by omega⟩, ⟨t.val + 1, by omega⟩, ⟨t.val + 2, by omega⟩, R 0, R 1, R 2, 63]

theorem kkey_at (t : Fin 62) (R : Fin 3 → Fin 64) (a : Fin 8) (x : Fin 64) (c : Fin 512) (hc : c.val = a.val * 64 + x.val) :
    kkey t R c = pos (kb t R a) x := by
  have := x.isLt
  obtain ⟨a, ha⟩ := a
  unfold kkey
  interval_cases a <;> dsimp only at hc <;> split_ifs <;> first
    | (exfalso; omega)
    | (refine Fin.ext ?_; simp [pos, kb] <;> omega)

/-- The random blocks' part of the reference's columns. -/
theorem part_at (R : Fin 3 → Fin 64) (j : Fin 3) (x : Fin 64) (n : ℕ) (hn : n = j.val * 64 + x.val) (h1 : n / 64 < 3) (h2 : n % 64 < 64) :
    pos (R ⟨n / 64, h1⟩) ⟨n % 64, h2⟩ = pos (R j) x := by
  have e1 : (⟨n / 64, h1⟩ : Fin 3) = j := Fin.ext (by show n / 64 = j.val; omega)
  have e2 : (⟨n % 64, h2⟩ : Fin 64) = x := Fin.ext (by show n % 64 = x.val; omega)
  rw [e1, e2]

theorem key8_at (h : Fin 12) (i : Fin 60) (a : Fin 8) (x : Fin 64) (c : Fin 512) (hc : c.val = a.val * 64 + x.val) :
    key8 h i c = pos (kb ⟨i.val + 1, by omega⟩ (rnd h ⟨1 + i.val, by omega⟩) a) x := by
  have := x.isLt
  obtain ⟨a, ha⟩ := a
  unfold key8
  generalize rnd h ⟨1 + i.val, by omega⟩ = R
  obtain ⟨c, hcl⟩ := c
  dsimp only at hc
  subst hc
  interval_cases a
  · rw [dif_pos (by dsimp only; omega)]
    exact congrArg (pos 0) (Fin.ext (by dsimp only; omega))
  · rw [dif_neg (by dsimp only; omega), dif_pos (by dsimp only; omega), dif_pos (by dsimp only; omega)]
    exact congrArg₂ pos (Fin.ext (Nat.add_comm _ _)) (Fin.ext (by dsimp only; omega))
  · rw [dif_neg (by dsimp only; omega), dif_pos (by dsimp only; omega), dif_neg (by dsimp only; omega), dif_pos (by dsimp only; omega)]
    exact congrArg₂ pos (Fin.ext (show 2 + i.val = i.val + 1 + 1 by omega)) (Fin.ext (by dsimp only; omega))
  · rw [dif_neg (by dsimp only; omega), dif_pos (by dsimp only; omega), dif_neg (by dsimp only; omega), dif_neg (by dsimp only; omega)]
    exact congrArg₂ pos (Fin.ext (show 3 + i.val = i.val + 1 + 2 by omega)) (Fin.ext (by dsimp only; omega))
  · rw [dif_neg (by dsimp only; omega), dif_neg (by dsimp only; omega), dif_pos (by dsimp only; omega)]
    exact part_at R 0 x _ (show 4 * 64 + x.val - 64 - 192 = 0 * 64 + x.val by omega) _ _
  · rw [dif_neg (by dsimp only; omega), dif_neg (by dsimp only; omega), dif_pos (by dsimp only; omega)]
    exact part_at R 1 x _ (show 5 * 64 + x.val - 64 - 192 = 1 * 64 + x.val by omega) _ _
  · rw [dif_neg (by dsimp only; omega), dif_neg (by dsimp only; omega), dif_pos (by dsimp only; omega)]
    exact part_at R 2 x _ (show 6 * 64 + x.val - 64 - 192 = 2 * 64 + x.val by omega) _ _
  · rw [dif_neg (by dsimp only; omega), dif_neg (by dsimp only; omega), dif_neg (by dsimp only; omega)]
    exact congrArg (pos 63) (Fin.ext (by dsimp only; omega))

/-- The blocks of the reference's columns next to an end. -/
def rb (B0 B1 B2 B3 : Fin 64) (R : Fin 3 → Fin 64) : Fin 7 → Fin 64 := ![B0, B1, B2, B3, R 0, R 1, R 2]

theorem key7_at (h : Fin 12) (B0 B1 B2 B3 : Fin 64) (i : Fin 62) (a : Fin 7) (x : Fin 64) (c : Fin 448) (hc : c.val = a.val * 64 + x.val) :
    key7 h B0 B1 B2 B3 i c = pos (rb B0 B1 B2 B3 (rnd h i) a) x := by
  have := x.isLt
  obtain ⟨a, ha⟩ := a
  unfold key7
  generalize rnd h i = R
  obtain ⟨c, hcl⟩ := c
  dsimp only at hc
  subst hc
  interval_cases a
  · rw [dif_pos (by dsimp only; omega)]
    exact congrArg (pos B0) (Fin.ext (by dsimp only; omega))
  · rw [dif_neg (by dsimp only; omega), dif_pos (by dsimp only; omega)]
    exact congrArg (pos B1) (Fin.ext (by dsimp only; omega))
  · rw [dif_neg (by dsimp only; omega), dif_neg (by dsimp only; omega), dif_pos (by dsimp only; omega)]
    exact congrArg (pos B2) (Fin.ext (by dsimp only; omega))
  · rw [dif_neg (by dsimp only; omega), dif_neg (by dsimp only; omega), dif_neg (by dsimp only; omega), dif_pos (by dsimp only; omega)]
    exact congrArg (pos B3) (Fin.ext (by dsimp only; omega))
  · rw [dif_neg (by dsimp only; omega), dif_neg (by dsimp only; omega), dif_neg (by dsimp only; omega), dif_neg (by dsimp only; omega)]
    exact part_at R 0 x _ (show 4 * 64 + x.val - 64 - 64 - 64 - 64 = 0 * 64 + x.val by omega) _ _
  · rw [dif_neg (by dsimp only; omega), dif_neg (by dsimp only; omega), dif_neg (by dsimp only; omega), dif_neg (by dsimp only; omega)]
    exact part_at R 1 x _ (show 5 * 64 + x.val - 64 - 64 - 64 - 64 = 1 * 64 + x.val by omega) _ _
  · rw [dif_neg (by dsimp only; omega), dif_neg (by dsimp only; omega), dif_neg (by dsimp only; omega), dif_neg (by dsimp only; omega)]
    exact part_at R 2 x _ (show 6 * 64 + x.val - 64 - 64 - 64 - 64 = 2 * 64 + x.val by omega) _ _

/-- A block's part of a sum over keys. -/
def blkSum (F : Fin 4096 → EReal) (B : Fin 64) : EReal := ∑ x : Fin 64, F (pos B x)

theorem sum_key7 (F : Fin 4096 → EReal) (h : Fin 12) (B0 B1 B2 B3 : Fin 64) (i : Fin 62) : ∑ c, F (key7 h B0 B1 B2 B3 i c)
    = blkSum F B0 + blkSum F B1 + blkSum F B2 + blkSum F B3 + blkSum F (rnd h i 0) + blkSum F (rnd h i 1) + blkSum F (rnd h i 2) := by
  have e : ∀ a : Fin 7, ∑ x : Fin 64, F (key7 h B0 B1 B2 B3 i ⟨a.val * 64 + x.val, by omega⟩) = blkSum F (rb B0 B1 B2 B3 (rnd h i) a) := fun a =>
    Finset.sum_congr rfl fun x _ => congrArg F (key7_at h B0 B1 B2 B3 i a x _ rfl)
  generalize rnd h i = R at e ⊢
  rw [sum_blocks (k := 7) rfl]
  refine (Finset.sum_congr rfl fun a _ => e a).trans ?_
  rw [Fin.sum_univ_seven]
  simp [rb]

/-- The kernel's sum, some of its blocks left out. -/
theorem sum_kkey (F : Fin 4096 → EReal) (t : Fin 62) (R : Fin 3 → Fin 64) : ∑ c : Fin 512, (if hid t.val c.val then 0 else F (kkey t R c))
    = blkSum F 0 + (if t.val = 0 then 0 else blkSum F ⟨t.val, by omega⟩) + blkSum F ⟨t.val + 1, by omega⟩ + (if t.val = 61 then 0 else blkSum F ⟨t.val + 2, by omega⟩)
      + blkSum F (R 0) + blkSum F (R 1) + blkSum F (R 2) + blkSum F 63 := by
  have e : ∀ a : Fin 8, ∑ x : Fin 64, (if hid t.val (a.val * 64 + x.val) then 0 else F (kkey t R ⟨a.val * 64 + x.val, by omega⟩))
      = if (t.val = 0 ∧ a.val = 1) ∨ (t.val = 61 ∧ a.val = 3) then 0 else blkSum F (kb t R a) := fun a => by
    have hh : ∀ x : Fin 64, hid t.val (a.val * 64 + x.val) ↔ ((t.val = 0 ∧ a.val = 1) ∨ (t.val = 61 ∧ a.val = 3)) := fun x => by
      unfold hid; omega
    simp only [hh]
    split_ifs
    · exact Finset.sum_const_zero
    · exact Finset.sum_congr rfl fun x _ => congrArg F (kkey_at t R a x _ rfl)
  rw [sum_blocks (k := 8) rfl]
  refine (Finset.sum_congr rfl fun a _ => e a).trans ?_
  rw [Fin.sum_univ_eight]
  simp [kb]

end Cert.Proof.Val

end
-- ==== Proof.VRowsEq.lean ====
module

public import proofs.«01_k».proof.Proof.VKerB
public import proofs.«01_k».proof.Proof.VRows
public import proofs.«01_k».proof.Proof.VRefE

/-! A block's rows in the two programs are the same, where the scores and the values are. -/

@[expose] public section

set_option maxRecDepth 16384

noncomputable section

namespace Cert.Proof.Val

open Idealize.ShloMosaic
open Ker (kkey hid)
open Ref (key7 key8 rnd)

variable (s w : Fin 4096 → EReal)

theorem exp_hid (p : Prop) [Decidable p] (x y : EReal) : Ideal.exp (if p then ⊥ else x) * y = if p then 0 else Ideal.exp x * y := by
  split_ifs
  · rw [Ideal.exp_bot, zero_mul]
  · rfl

theorem exp_hid' (p : Prop) [Decidable p] (x : EReal) : Ideal.exp (if p then ⊥ else x) = if p then 0 else Ideal.exp x := by
  split_ifs
  · exact Ideal.exp_bot
  · rfl

/-- The kernel's row with its blocks at an end left out, by blocks. -/
theorem row_hid (t : Fin 62) (R : Fin 3 → Fin 64) :
    row (fun c : Fin 512 => if hid t.val c.val then ⊥ else s (kkey t R c)) (fun c => w (kkey t R c))
      = (∑ c : Fin 512, (if hid t.val c.val then 0 else (fun p => Ideal.exp (s p) * w p) (kkey t R c)))
        * Ideal.div 1 (∑ c : Fin 512, (if hid t.val c.val then 0 else (fun p => Ideal.exp (s p)) (kkey t R c))) := by
  unfold row
  exact congrArg₂ (fun a b => a * Ideal.div 1 b) (Finset.sum_congr rfl fun c _ => exp_hid _ _ _) (Finset.sum_congr rfl fun c _ => exp_hid' _ _)

theorem sums_one (F : Fin 4096 → EReal) (h : Fin 12) : ∑ c : Fin 512, (if hid (0 : Fin 62).val c.val then 0 else F (kkey 0 (rnd h 0) c)) = ∑ c, F (key7 h 0 1 2 63 0 c) := by
  rw [sum_key7]
  refine (sum_kkey F 0 (rnd h 0)).trans ?_
  generalize rnd h 0 = R
  rw [if_pos (show (0 : Fin 62).val = 0 from rfl), if_neg (show ¬ (0 : Fin 62).val = 61 by decide), add_zero]
  show blkSum F 0 + blkSum F 1 + blkSum F 2 + blkSum F (R 0) + blkSum F (R 1) + blkSum F (R 2) + blkSum F 63 = _
  ac_rfl

theorem sums_last (F : Fin 4096 → EReal) (h : Fin 12) : ∑ c : Fin 512, (if hid (61 : Fin 62).val c.val then 0 else F (kkey 61 (rnd h 61) c)) = ∑ c, F (key7 h 0 61 62 63 61 c) := by
  rw [sum_key7]
  refine (sum_kkey F 61 (rnd h 61)).trans ?_
  generalize rnd h 61 = R
  rw [if_neg (show ¬ (61 : Fin 62).val = 0 by decide), if_pos (show (61 : Fin 62).val = 61 from rfl), add_zero]
  show blkSum F 0 + blkSum F 61 + blkSum F 62 + blkSum F (R 0) + blkSum F (R 1) + blkSum F (R 2) + blkSum F 63 = _
  ac_rfl

theorem row_one (h : Fin 12) : row (fun c : Fin 512 => if hid (0 : Fin 62).val c.val then ⊥ else s (kkey 0 (rnd h 0) c)) (fun c => w (kkey 0 (rnd h 0) c))
    = row (fun c => s (key7 h 0 1 2 63 0 c)) (fun c => w (key7 h 0 1 2 63 0 c)) :=
  (row_hid s w 0 _).trans (congrArg₂ (fun a b => a * Ideal.div 1 b) (sums_one (fun p => Ideal.exp (s p) * w p) h) (sums_one (fun p => Ideal.exp (s p)) h))

theorem row_last (h : Fin 12) : row (fun c : Fin 512 => if hid (61 : Fin 62).val c.val then ⊥ else s (kkey 61 (rnd h 61) c)) (fun c => w (kkey 61 (rnd h 61) c))
    = row (fun c => s (key7 h 0 61 62 63 61 c)) (fun c => w (key7 h 0 61 62 63 61 c)) :=
  (row_hid s w 61 _).trans (congrArg₂ (fun a b => a * Ideal.div 1 b) (sums_last (fun p => Ideal.exp (s p) * w p) h) (sums_last (fun p => Ideal.exp (s p)) h))

theorem kkey_key8 (h : Fin 12) (i : Fin 60) (c : Fin 512) : kkey ⟨i.val + 1, by omega⟩ (rnd h ⟨1 + i.val, by omega⟩) c = key8 h i c := by
  have e : c.val = (⟨c.val / 64, by omega⟩ : Fin 8).val * 64 + (⟨c.val % 64, by omega⟩ : Fin 64).val := by dsimp only; omega
  exact (kkey_at _ _ _ _ c e).trans (key8_at h i _ _ c e).symm

theorem row_mid (h : Fin 12) (i : Fin 60) : row (fun c : Fin 512 => if hid (i.val + 1) c.val then ⊥ else s (kkey ⟨i.val + 1, by omega⟩ (rnd h ⟨1 + i.val, by omega⟩) c))
      (fun c => w (kkey ⟨i.val + 1, by omega⟩ (rnd h ⟨1 + i.val, by omega⟩) c))
    = row (fun c => s (key8 h i c)) (fun c => w (key8 h i c)) := by
  refine congrArg₂ row (funext fun c => ?_) (funext fun c => congrArg w (kkey_key8 h i c))
  rw [if_neg (by unfold hid; omega)]
  exact congrArg s (kkey_key8 h i c)

section Block

open Ker (Rows dot2 tscore rblk tr trip_lt lane2)
open Ref (score W Opened)
open Cert.ReferenceIdeal.Value (res_main_v342)

variable {T : Cert.KernelIdeal.S12x62x3.Idx → BitVec 32} {hT : ∀ j, (T j).toNat < 64} {q k v : Vec Ideal Cert.KernelIdeal.S1x4096x128 .bf16} {i : Cert.KernelIdeal.grid1.Coords}
  {V0 : Valuation Cert.ReferenceIdeal.τ Cert.ReferenceIdeal.sig (Elt Ideal)} {b : Fin 4} {h : Fin 2 → Fin 12}
  (hO : Opened V0) (hS : ∀ b h p p', ∃ r : ℝ, score V0 b h p p' = (r : EReal))
  (hq : ∀ e p p', dot2 q k e p p' = score V0 b (h e) p p') (hv : ∀ e p d, v (ix3 0 p (lane2 e d)) = W V0 b (h e) p d)
  (hR : ∀ e t, rblk T hT i e t = rnd (h e) t)

include hO hS hq hv hR in
theorem trip_eq (t : Fin 62) (r : Fin 64) (e : Fin 2) (d : Fin 64) :
    row (fun c : Fin 512 => if hid t.val c.val then ⊥ else dot2 q k e (pos ⟨t.val + 1, by omega⟩ r) (kkey t (rblk T hT i e t) c))
      (fun c => v (ix3 0 (kkey t (rblk T hT i e t) c) (lane2 e d))) = res_main_v342 V0 (ix5 b (h e) ⟨t.val + 1, by omega⟩ r d) := by
  simp only [hq, hv, hR]
  by_cases h0 : t.val = 0
  · obtain rfl : t = 0 := Fin.ext h0
    exact (row_one (fun p => score V0 b (h e) (pos 1 r) p) (fun p => W V0 b (h e) p d) (h e)).trans (Ref.v342_one hO hS b (h e) r d).symm
  by_cases h1 : t.val = 61
  · obtain rfl : t = 61 := Fin.ext h1
    exact (row_last (fun p => score V0 b (h e) (pos 62 r) p) (fun p => W V0 b (h e) p d) (h e)).trans (Ref.v342_last2 hO hS b (h e) r d).symm
  obtain ⟨n, rfl⟩ : ∃ n : Fin 60, t = ⟨n.val + 1, by omega⟩ := ⟨⟨t.val - 1, by omega⟩, Fin.ext (by dsimp only; omega)⟩
  have e1 : (⟨n.val + 1 + 1, by omega⟩ : Fin 64) = ⟨2 + n.val, by omega⟩ := Fin.ext (by dsimp only; omega)
  have e2 : (⟨n.val + 1, by omega⟩ : Fin 62) = ⟨1 + n.val, by omega⟩ := Fin.ext (Nat.add_comm _ _)
  have e3 := row_mid (fun p => score V0 b (h e) (pos ⟨2 + n.val, by omega⟩ r) p) (fun p => W V0 b (h e) p d) (h e) n
  rw [← e2] at e3
  dsimp only
  rw [e1]
  exact e3.trans (Ref.v342_mid hO hS b (h e) n r d).symm

include hO hS hq hv hR in
theorem rows_of {G : Fin 64 → Fin 64 → Fin 2 → Fin 64 → EReal} (hG : ∀ j r e d, G j r e d = res_main_v342 V0 (ix5 b (h e) j r d)) : Rows T hT q k v i G where
  first := fun r e d => by
    simp only [hq, hv]
    exact (Ref.v342_zero hO hS b (h e) r d).symm.trans (hG 0 r e d).symm
  last := fun r e d => by
    simp only [hq, hv]
    exact (Ref.v342_last hO hS b (h e) r d).symm.trans (hG 63 r e d).symm
  trip := fun t r e d => (trip_eq hO hS hq hv hR (tr t) r e d).trans (hG _ r e d).symm

end Block

end Cert.Proof.Val

end
-- ==== Proof.VReal.lean ====
module

public import proofs.«01_k».proof.Proof.VSoft

/-! Products and sums of finite entries. -/

@[expose] public section

noncomputable section

namespace Cert.Proof.Val

open Idealize.ShloMosaic

/-- An entry that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

/-- A scale moves into a finite sum. -/
theorem sum_scale {n : ℕ} {f : Fin n → EReal} {s : EReal} (h : ∀ i, IsReal (f i)) (hs : IsReal s) : ∑ i, f i * s = (∑ i, f i) * s := by
  choose g hg using h
  obtain ⟨r, rfl⟩ := hs
  simp only [hg, ← EReal.coe_mul, ← coe_sum]
  rw [Finset.sum_mul]

theorem add_scale {x y s : EReal} (hx : IsReal x) (hy : IsReal y) (hs : IsReal s) : x * s + y * s = (x + y) * s := by
  obtain ⟨a, rfl⟩ := hx
  obtain ⟨b, rfl⟩ := hy
  obtain ⟨r, rfl⟩ := hs
  simp only [← EReal.coe_mul, ← EReal.coe_add]
  rw [add_mul]

/-- A projection by scaled weights and a scaled bias is the scaled projection. -/
theorem lin_scale {n : ℕ} {x w : Fin n → EReal} {b s : EReal} (hx : ∀ i, IsReal (x i)) (hw : ∀ i, IsReal (w i)) (hb : IsReal b) (hs : IsReal s) :
    (∑ i, x i * (w i * s)) + b * s = ((∑ i, x i * w i) + b) * s := by
  simp only [← mul_assoc]
  rw [sum_scale (fun i => (hx i).mul (hw i)) hs, add_scale (IsReal.sum fun i => (hx i).mul (hw i)) hb hs]

/-- A product of a scaled query with a key is the scaled product. -/
theorem dot_scale {n : ℕ} {q k : Fin n → EReal} {s : EReal} (hq : ∀ i, IsReal (q i)) (hk : ∀ i, IsReal (k i)) (hs : IsReal s) :
    ∑ i, q i * s * k i = (∑ i, q i * k i) * s := by
  rw [← sum_scale (fun i => (hq i).mul (hk i)) hs]
  exact Finset.sum_congr rfl fun i _ => mul_right_comm _ _ _

end Cert.Proof.Val

end
-- ==== Proof.VPre.lean ====
module

public import proofs.«01_k».proof.Proof.VReal
public import proofs.«01_k».proof.Pre_open_masks_finite_scores
public import Idealize.ShloMosaic.Lib.IdealHost

/-! The precondition read: open masks, finite scores. -/

@[expose] public section

noncomputable section

namespace Cert.Proof.Val

open Idealize.ShloMosaic

theorem pre_facts : Cert.Pre_open_masks_finite_scores.Facts where
  bcast_S_S4x1x60x64x192 := by decide
  bcast_S_S4x1x4096x1 := by decide
  bcast_S_S4x1x1x4096 := by decide
  bcast_S_S4x64x64 := by decide
  bcast_S_S4x4096x768 := by decide
  bcast_S_S768x768 := by decide
  bcast_S_S768 := by decide

/-- An array comparing equal to one at every entry is one at every entry. -/
theorem one_of_oeq {s : Shape} (x : FVec Ideal s .f32) (h : (⟨0, ![]⟩ : Shape).BroadcastsInDim s (![] : Fin 0 → Fin s.rank))
    (e : cmpf .oeq x (broadcastInDim s ![] h (constant (F := Ideal) ⟨0, ![]⟩ .f32 0x3F800000#32)) = fun _ => 1#1) (j : s.Idx) : x j = (1 : EReal) := by
  have e := congrFun e j
  change BitVec.ofBool (decide (x j = Ideal.ofBits .f32 0x3F800000#32)) = 1#1 at e
  rw [Ideal.ofBits_one_f32] at e
  by_contra hc
  rw [decide_eq_false hc] at e
  exact absurd e (by decide)

theorem inf_top : Ideal.ofBits .f32 0x7F800000#32 = (⊤ : EReal) := by
  simp [Ideal.ofBits, Ideal.ieee]

/-- An array of magnitude below infinity at every entry is real at every entry. -/
theorem real_of_olt {s : Shape} (x : FVec Ideal s .f32) (h : (⟨0, ![]⟩ : Shape).BroadcastsInDim s (![] : Fin 0 → Fin s.rank))
    (e : cmpf .olt (Host.absf x) (broadcastInDim s ![] h (constant (F := Ideal) ⟨0, ![]⟩ .f32 0x7F800000#32)) = fun _ => 1#1) (j : s.Idx) : IsReal (x j) := by
  have e := congrFun e j
  change BitVec.ofBool (decide (max (x j : EReal) (-(x j : EReal)) < Ideal.ofBits .f32 0x7F800000#32)) = 1#1 at e
  rw [inf_top] at e
  have hl : max (x j : EReal) (-(x j : EReal)) < ⊤ := by
    by_contra hc
    rw [decide_eq_false hc] at e
    exact absurd e (by decide)
  obtain ⟨h1, h2⟩ := max_lt_iff.mp hl
  refine ⟨(x j : EReal).toReal, (EReal.coe_toReal h1.ne fun hb => ?_).symm⟩
  rw [hb] at h2
  exact absurd h2 (by simp)

end Cert.Proof.Val

end
-- ==== Proof.VEq.lean ====
module

public import proofs.«01_k».proof.Proof.VKerE
public import proofs.«01_k».proof.Proof.VRefF
public import proofs.«01_k».proof.Proof.VRowsEq
public import proofs.«01_k».proof.Proof.VReal
public import proofs.«01_k».proof.Proof.VPre

/-! The kernel's result is the reference's. -/

@[expose] public section

set_option maxRecDepth 16384

noncomputable section

namespace Cert.Proof.Val

open Idealize.ShloMosaic Idealize.ShloMosaic.TcCoe
open Ker (bat hd lane2 dot2 rblk A13 qlin scale)
open Ref (score)
open Cert.KernelIdeal Cert.KernelIdeal.Gen Cert.Proof.KernelIdeal

theorem scale_real : IsReal scale := ⟨(1 / 8 : ℝ), by simp [scale, Ideal.ofBits, Ideal.ieee, -EReal.coe_mul]; norm_num⟩

theorem lin_real {x w bias} (hx : ∀ j, IsReal (x j)) (hw : ∀ j, IsReal (w j)) (hb : ∀ j, IsReal (bias j)) (b : Fin 4) (p : Fin 4096) (o : Fin 768) : IsReal (lin x w bias b p o) :=
  (IsReal.sum fun k => (hx _).mul (hw _)).add (hb _)

/-- The two programs' tables are one. -/
theorem tables : ∀ a : Fin 36, ∀ b : Fin 62, (Cert.KernelIdeal.lit0 ⟨a.val * 62 + b.val, by omega⟩ : BitVec 32) = Cert.ReferenceIdeal.lit0 ⟨a.val * 62 + b.val, by omega⟩ := by decide +kernel

theorem table_eq (a : Fin 2232) : (Cert.KernelIdeal.lit0 a : BitVec 32) = Cert.ReferenceIdeal.lit0 a := by
  have e : (⟨a.val / 62 * 62 + a.val % 62, by omega⟩ : Fin 2232) = a := Fin.ext (Nat.div_add_mod' _ 62)
  have := tables ⟨a.val / 62, by omega⟩ ⟨a.val % 62, Nat.mod_lt _ (by omega)⟩
  rw [← e]; exact this

section

variable {m : (ℓ : Loc nD τ sig) → Buf (Elt Ideal) ℓ} {c : Dev nD} {V0 : Valuation Cert.ReferenceIdeal.τ Cert.ReferenceIdeal.sig (Elt Ideal)}
  (aX : Ker.X m c = Ref.X V0) (aWq : Ker.Wq m c = Ref.Wq V0) (abq : Ker.bq m c = Ref.bq V0) (aWk : Ker.Wk m c = Ref.Wk V0) (abk : Ker.bk m c = Ref.bk V0)
  (aWv : Ker.Wv m c = Ref.Wv V0) (abv : Ker.bv m c = Ref.bv V0)
  (rX : ∀ j, IsReal (Ref.X V0 j)) (rWq : ∀ j, IsReal (Ref.Wq V0 j)) (rbq : ∀ j, IsReal (Ref.bq V0 j)) (rWk : ∀ j, IsReal (Ref.Wk V0 j)) (rbk : ∀ j, IsReal (Ref.bk V0 j))
  (hO : Ref.Opened V0)

include rX rWq rbq rWk rbk in
theorem score_real (b : Fin 4) (h : Fin 12) (p p' : Fin 4096) : IsReal (score V0 b h p p') :=
  (IsReal.sum fun d => (lin_real rX rWq rbq b p (lane h d)).mul (lin_real rX rWk rbk b p' (lane h d))).mul scale_real

include aX aWq abq rX rWq rbq in
theorem q_at (b : Fin 4) (h : Fin 12) (p : Fin 4096) (d : Fin 64) : A13 m c (ix3 b p ⟨(lane h d).val, by omega⟩) = Ref.Q V0 b h p d * scale := by
  rw [Ker.A13_q]
  unfold qlin
  rw [aX, aWq, abq]
  exact lin_scale (fun _ => rX _) (fun _ => rWq _) (rbq _) scale_real

include aX aWk abk in
theorem k_at (b : Fin 4) (h : Fin 12) (p : Fin 4096) (d : Fin 64) : A13 m c (ix3 b p ⟨768 + (lane h d).val, by omega⟩) = Ref.K V0 b h p d := by
  rw [Ker.A13_k, aX, aWk, abk]
  rfl

include aX aWv abv in
theorem v_at (b : Fin 4) (h : Fin 12) (p : Fin 4096) (d : Fin 64) : A13 m c (ix3 b p ⟨1536 + (lane h d).val, by omega⟩) = Ref.W V0 b h p d := by
  rw [Ker.A13_v, aX, aWv, abv]
  rfl

theorem lane_hd (t : Fin (cfgA (F := Ideal)).N) (e : Fin 2) (d : Fin 64) : (lane (hd t e) d).val = (grid1.coords t 1).val * 128 + (lane2 e d).val := by
  show (2 * (grid1.coords t 1).val + e.val) * 64 + d.val = (grid1.coords t 1).val * 128 + (e.val * 64 + d.val)
  omega

include aX aWq abq aWk abk rX rWq rbq rWk rbk in
theorem dot_eq (t : Fin (cfgA (F := Ideal)).N) (e : Fin 2) (p p' : Fin 4096) :
    dot2 (blk1_0 (V3 m (outsA m)) c t) (blk1_1 (V3 m (outsA m)) c t) e p p' = score V0 (bat t) (hd t e) p p' := by
  unfold dot2 score
  refine Eq.trans (Finset.sum_congr rfl fun d _ => ?_) (dot_scale (fun d => lin_real rX rWq rbq (bat t) p (lane (hd t e) d)) (fun d => lin_real rX rWk rbk (bat t) p' (lane (hd t e) d)) scale_real)
  exact congrArg₂ (· * ·) ((Ker.blk1_0_apply c _ t p _ (bat t) (lane (hd t e) d) rfl (lane_hd t e d)).trans (q_at aX aWq abq rX rWq rbq (bat t) (hd t e) p d))
    ((Ker.blk1_1_apply c _ t p' _ (bat t) (lane (hd t e) d) rfl (lane_hd t e d)).trans (k_at aX aWk abk (bat t) (hd t e) p' d))

include aX aWv abv in
theorem val_eq (t : Fin (cfgA (F := Ideal)).N) (e : Fin 2) (p : Fin 4096) (d : Fin 64) :
    blk1_2 (V3 m (outsA m)) c t (ix3 0 p (lane2 e d)) = Ref.W V0 (bat t) (hd t e) p d :=
  (Ker.blk1_2_apply c _ t p _ (bat t) (lane (hd t e) d) rfl (lane_hd t e d)).trans (v_at aX aWv abv (bat t) (hd t e) p d)

theorem rblk_eq (t : Fin (cfgA (F := Ideal)).N) (e : Fin 2) (j : Fin 62) : rblk tab tab_lt (grid1.coords t) e j = Ref.rnd (hd t e) j :=
  funext fun k => Fin.ext (by
    show (Cert.KernelIdeal.lit0 (S12x62x3.rowMajor (ix3 (hd t e) j k)) : BitVec 32).toNat = (Cert.ReferenceIdeal.lit0 (S12x62x3.rowMajor (ix3 (hd t e) j k)) : BitVec 32).toNat
    exact congrArg (fun w : BitVec 32 => w.toNat) (table_eq (S12x62x3.rowMajor (ix3 (hd t e) j k))))

include aX aWq abq aWk abk aWv abv rX rWq rbq rWk rbk hO in
/-- The attention's array is the reference's, read row by row. -/
theorem res14_of {G : FVec Ideal S4x4096x768 .f32}
    (hG : ∀ b p o, G (ix3 b p o) = Cert.ReferenceIdeal.Value.res_main_v342 V0 (ix5 b ⟨o.val / 64, by omega⟩ ⟨p.val / 64, by omega⟩ ⟨p.val % 64, by omega⟩ ⟨o.val % 64, by omega⟩)) :
    res14 m c = G := by
  refine Ker.res14_eq fun t => ?_
  refine rows_of hO (score_real rX rWq rbq rWk rbk) (dot_eq aX aWq abq aWk abk rX rWq rbq rWk rbk t) (val_eq aX aWv abv t) (rblk_eq t) fun j r e d => ?_
  refine (hG _ _ _).trans ?_
  have e1 : (⟨(lane (hd t e) d).val / 64, by omega⟩ : Fin 12) = hd t e := Fin.ext (by show ((hd t e).val * 64 + d.val) / 64 = (hd t e).val; omega)
  have e2 : (⟨(lane (hd t e) d).val % 64, by omega⟩ : Fin 64) = d := Fin.ext (by show ((hd t e).val * 64 + d.val) % 64 = d.val; omega)
  have e3 : (⟨(pos j r).val / 64, by omega⟩ : Fin 64) = j := Fin.ext (by show (j.val * 64 + r.val) / 64 = j.val; omega)
  have e4 : (⟨(pos j r).val % 64, by omega⟩ : Fin 64) = r := Fin.ext (by show (j.val * 64 + r.val) % 64 = r.val; omega)
  rw [e1, e2, e3, e4]

end

end Cert.Proof.Val

end
-- ==== Proof.Algebraic.lean ====
module

public import proofs.«01_k».proof.Defs
public import proofs.«01_k».proof.Proof.VEq

/-! The value claim: both programs end with the same array. -/

@[expose] public section

set_option maxRecDepth 16384

noncomputable section

namespace Cert.Proof

open Idealize.ShloMosaic Idealize.ShloMosaic.TcCoe Idealize.ShloMosaic.StableHlo Idealize.SL.Sem
open Cert.Proof.Val

/-- What the precondition says of one device's arguments. -/
structure Admitted (m : (ℓ : Loc Cert.KernelIdeal.nD Cert.KernelIdeal.τ Cert.KernelIdeal.sig) → Buf (Elt Ideal) ℓ) (c : Dev Cert.KernelIdeal.nD) : Prop where
  m1 : ∀ j, (m ((c.tc : Thread Cert.KernelIdeal.nD Cert.KernelIdeal.τ).loc Cert.KernelIdeal.main_arg1) : FVec Ideal Cert.KernelIdeal.S4x1x60x64x192 .f32) j = (1 : EReal)
  m2 : ∀ j, (m ((c.tc : Thread Cert.KernelIdeal.nD Cert.KernelIdeal.τ).loc Cert.KernelIdeal.main_arg2) : FVec Ideal Cert.KernelIdeal.S4x1x4096x1 .f32) j = (1 : EReal)
  m3 : ∀ j, (m ((c.tc : Thread Cert.KernelIdeal.nD Cert.KernelIdeal.τ).loc Cert.KernelIdeal.main_arg3) : FVec Ideal Cert.KernelIdeal.S4x1x1x4096 .f32) j = (1 : EReal)
  m4 : ∀ j, (m ((c.tc : Thread Cert.KernelIdeal.nD Cert.KernelIdeal.τ).loc Cert.KernelIdeal.main_arg4) : FVec Ideal Cert.KernelIdeal.S4x64x64 .f32) j = (1 : EReal)
  m5 : ∀ j, (m ((c.tc : Thread Cert.KernelIdeal.nD Cert.KernelIdeal.τ).loc Cert.KernelIdeal.main_arg5) : FVec Ideal Cert.KernelIdeal.S4x64x64 .f32) j = (1 : EReal)
  x : ∀ j, IsReal (Ker.X m c j)
  wq : ∀ j, IsReal (Ker.Wq m c j)
  bq : ∀ j, IsReal (Ker.bq m c j)
  wk : ∀ j, IsReal (Ker.Wk m c j)
  bk : ∀ j, IsReal (Ker.bk m c j)

theorem admitted {m : (ℓ : Loc Cert.KernelIdeal.nD Cert.KernelIdeal.τ Cert.KernelIdeal.sig) → Buf (Elt Ideal) ℓ}
    (h : Cert.Pre_KernelIdeal_open_masks_finite_scores (hPre_open_masks_finite_scores := pre_facts) m) (c : Dev Cert.KernelIdeal.nD) : Admitted m c := by
  obtain ⟨h1, h2, h3, h4, h5, h6, h7, h8, h9, h10⟩ := h c
  exact ⟨one_of_oeq _ pre_facts.bcast_S_S4x1x60x64x192 h1, one_of_oeq _ pre_facts.bcast_S_S4x1x4096x1 h2, one_of_oeq _ pre_facts.bcast_S_S4x1x1x4096 h3,
    one_of_oeq _ pre_facts.bcast_S_S4x64x64 h4, one_of_oeq _ pre_facts.bcast_S_S4x64x64 h5,
    real_of_olt _ pre_facts.bcast_S_S4x4096x768 h6, real_of_olt _ pre_facts.bcast_S_S768x768 h7, real_of_olt _ pre_facts.bcast_S_S768 h8,
    real_of_olt _ pre_facts.bcast_S_S768x768 h9, real_of_olt _ pre_facts.bcast_S_S768 h10⟩

theorem algebraic : Cert.algebraic_KernelIdeal_ReferenceIdeal_pre_open_masks_finite_scores (hPre_open_masks_finite_scores := pre_facts) := by
  intro m g m' g' hp ha
  refine ⟨fun c => Cert.Proof.KernelIdeal.res14 m c, (θ_run _ _ _).mono (fun _ h => h.1) (Cert.Proof.KernelIdeal.run_main m g),
    (θ_run _ _ _).mono (fun r h c => ⟨(h c).1.trans ?_, (h c).2⟩) (Cert.ReferenceIdeal.Value.run m' g')⟩
  obtain ⟨a0, a1, a2, a3, a4, a5, a6, a7, a8, a9, a10, a11⟩ := ha c
  have P := admitted hp c
  have hO : Ref.Opened (launchContents m' c) :=
    ⟨fun j => (congrFun a1 j).trans (P.m1 j), fun j => (congrFun a2 j).trans (P.m2 j), fun j => (congrFun a3 j).trans (P.m3 j), fun j => (congrFun a4 j).trans (P.m4 j),
      fun j => (congrFun a5 j).trans (P.m5 j)⟩
  refine (res14_of (V0 := launchContents m' c) a0.symm a6.symm a7.symm a8.symm a9.symm a10.symm a11.symm
    (fun j => Eq.mpr (congrArg IsReal (congrFun a0 j)) (P.x j)) (fun j => Eq.mpr (congrArg IsReal (congrFun a6 j)) (P.wq j)) (fun j => Eq.mpr (congrArg IsReal (congrFun a7 j)) (P.bq j)) (fun j => Eq.mpr (congrArg IsReal (congrFun a8 j)) (P.wk j))
    (fun j => Eq.mpr (congrArg IsReal (congrFun a9 j)) (P.bk j)) hO fun b p o => ?_).symm
  exact Ref.join_rows _ _ (funext fun j => hO.out j) b p o

end Cert.Proof

end
-- ==== Proof.lean ====
module

public import proofs.«01_k».proof.Proof.Frames
public import proofs.«01_k».proof.Proof.Algebraic

/-! The certificate's claims, together. -/

@[expose] public section

noncomputable section

namespace Cert.Proof

theorem claim : Cert.Claim :=
  ⟨Cert.Kernel.Gen.facts, Cert.KernelIdeal.Gen.facts, Cert.ReferenceIdeal.Gen.facts, Cert.Proof.Val.pre_facts, frame_kernel, frame_kernelIdeal, fun m g _ => frame_kernelIdeal m g trivial,
    frame_referenceIdeal, fun m g _ => frame_referenceIdeal m g trivial, preserves, algebraic⟩

end Cert.Proof

end
